-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "inv_nd" .f32 0x39AAAAAB#32 ((3072⁻¹ : ℝ) : EReal)
  ∧ IdealRules.named_const.Statement Cert.KernelIdeal.κ "inv_d" .f32 0x3AAAAAAB#32 ((768⁻¹ : ℝ) : EReal)

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v32_1) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S1x4x2048x768 : Shape := ⟨4, ![1, 4, 2048, 768]⟩
abbrev S8x3072 : Shape := ⟨2, ![8, 3072]⟩
abbrev S8x4x3072 : Shape := ⟨3, ![8, 4, 3072]⟩
abbrev S8x16x3072 : Shape := ⟨3, ![8, 16, 3072]⟩
abbrev S8x4 : Shape := ⟨2, ![8, 4]⟩
abbrev S8x4x4 : Shape := ⟨3, ![8, 4, 4]⟩
abbrev S8 : Shape := ⟨1, ![8]⟩
abbrev S8x768 : Shape := ⟨2, ![8, 768]⟩
abbrev S8x768x768 : Shape := ⟨3, ![8, 768, 768]⟩
abbrev S8x1242x768 : Shape := ⟨3, ![8, 1242, 768]⟩
abbrev S8x768x1242 : Shape := ⟨3, ![8, 768, 1242]⟩
abbrev S_ : Shape := ⟨0, ![]⟩

class Facts : Prop where
  bcast_S_S1x4x2048x768 : S_.BroadcastsInDim S1x4x2048x768 (![] : Fin 0 → Fin S1x4x2048x768.rank)
  bcast_S_S8x768 : S_.BroadcastsInDim S8x768 (![] : Fin 0 → Fin S8x768.rank)

variable [Facts]

def fn {F : FTy → Type} [FloatOps F] (main_arg0 : FVec F S1x4x2048x768 .f32) (main_arg1 : FVec F S8x3072 .f32) (main_arg2 : FVec F S8x4x3072 .f32) (main_arg3 : FVec F S8x4x3072 .f32) (main_arg4 : FVec F S8x16x3072 .f32) (main_arg5 : FVec F S8x4 .f32) (main_arg6 : FVec F S8x4 .f32) (main_arg7 : FVec F S8x4x4 .f32) (main_arg8 : FVec F S8 .f32) (main_arg9 : FVec F S8 .f32) (main_arg10 : FVec F S8 .f32) (main_arg11 : FVec F S8x768 .f32) (main_arg12 : FVec F S8x768x768 .f32) (main_arg13 : FVec F S8x768x768 .f32) (main_arg14 : FVec F S8x1242x768 .f32) (main_arg15 : FVec F S8x1242x768 .f32) (main_arg16 : FVec F S8x768x1242 .f32) (main_arg17 : FVec F S8x768 .f32) : IVec S1x4x2048x768 1 × IVec S8x768 1 :=
  let main_v0 : FVec F S1x4x2048x768 .f32 := Host.absf main_arg0
  let main_cst : FVec F S_ .f32 := constant S_ .f32 0x7F800000#32
  let main_v1 : FVec F S1x4x2048x768 .f32 := broadcastInDim S1x4x2048x768 ![] bcast_S_S1x4x2048x768 main_cst
  let main_v2 : IVec S1x4x2048x768 1 := cmpf .olt main_v0 main_v1
  let main_v3 : FVec F S8x768 .f32 := Host.absf main_arg17
  let main_cst_0 : FVec F S_ .f32 := constant S_ .f32 0x7F800000#32
  let main_v4 : FVec F S8x768 .f32 := broadcastInDim S8x768 ![] bcast_S_S8x768 main_cst_0
  let main_v5 : IVec S8x768 1 := cmpf .olt main_v3 main_v4
  (main_v2, main_v5)
-- ==== Kernel.lean ====
abbrev S1x4x2048x768 : Shape := ⟨4, ![1, 4, 2048, 768]⟩
abbrev S8x3072 : Shape := ⟨2, ![8, 3072]⟩
abbrev S8x4x3072 : Shape := ⟨3, ![8, 4, 3072]⟩
abbrev S8x16x3072 : Shape := ⟨3, ![8, 16, 3072]⟩
abbrev S8x4 : Shape := ⟨2, ![8, 4]⟩
abbrev S8x4x4 : Shape := ⟨3, ![8, 4, 4]⟩
abbrev S8 : Shape := ⟨1, ![8]⟩
abbrev S8x768 : Shape := ⟨2, ![8, 768]⟩
abbrev S8x768x768 : Shape := ⟨3, ![8, 768, 768]⟩
abbrev S8x1242x768 : Shape := ⟨3, ![8, 1242, 768]⟩
abbrev S8x768x1242 : Shape := ⟨3, ![8, 768, 1242]⟩
abbrev S4x2048x768 : Shape := ⟨3, ![4, 2048, 768]⟩
abbrev S8x1x4x768 : Shape := ⟨4, ![8, 1, 4, 768]⟩
abbrev S8x4x4x768 : Shape := ⟨4, ![8, 4, 4, 768]⟩
abbrev S7x4x4x768 : Shape := ⟨4, ![7, 4, 4, 768]⟩
abbrev S8x16x4x768 : Shape := ⟨4, ![8, 16, 4, 768]⟩
abbrev S7x16x4x768 : Shape := ⟨4, ![7, 16, 4, 768]⟩
abbrev S4x768x7x4 : Shape := ⟨4, ![4, 768, 7, 4]⟩
abbrev S4x768x28 : Shape := ⟨3, ![4, 768, 28]⟩
abbrev S4x768x7x16 : Shape := ⟨4, ![4, 768, 7, 16]⟩
abbrev S4x768x112 : Shape := ⟨3, ![4, 768, 112]⟩
abbrev S4x768x168 : Shape := ⟨3, ![4, 768, 168]⟩
abbrev S7 : Shape := ⟨1, ![7]⟩
abbrev S7x4 : Shape := ⟨2, ![7, 4]⟩
abbrev S28 : Shape := ⟨1, ![28]⟩
abbrev S7x16 : Shape := ⟨2, ![7, 16]⟩
abbrev S112 : Shape := ⟨1, ![112]⟩
abbrev S7x4x4 : Shape := ⟨3, ![7, 4, 4]⟩
abbrev S336 : Shape := ⟨1, ![336]⟩
abbrev S1x336 : Shape := ⟨2, ![1, 336]⟩
abbrev S8x1x768 : Shape := ⟨3, ![8, 1, 768]⟩
abbrev S2048x8 : Shape := ⟨2, ![2048, 8]⟩
abbrev S2048x1 : Shape := ⟨2, ![2048, 1]⟩
abbrev S4x512x768 : Shape := ⟨3, ![4, 512, 768]⟩
abbrev S1x1x768 : Shape := ⟨3, ![1, 1, 768]⟩
abbrev S1x768x768 : Shape := ⟨3, ![1, 768, 768]⟩
abbrev S1x1242x768 : Shape := ⟨3, ![1, 1242, 768]⟩
abbrev S1x768x1242 : Shape := ⟨3, ![1, 768, 1242]⟩
abbrev S512x8 : Shape := ⟨2, ![512, 8]⟩
abbrev S512x1 : Shape := ⟨2, ![512, 1]⟩
abbrev S7x512x4 : Shape := ⟨3, ![7, 512, 4]⟩
abbrev S1x512x768 : Shape := ⟨3, ![1, 512, 768]⟩
abbrev S512x768 : Shape := ⟨2, ![512, 768]⟩
abbrev S512 : Shape := ⟨1, ![512]⟩
abbrev S1x768x168 : Shape := ⟨3, ![1, 768, 168]⟩
abbrev S768x168 : Shape := ⟨2, ![768, 168]⟩
abbrev S512x168 : Shape := ⟨2, ![512, 168]⟩
abbrev S1x28 : Shape := ⟨2, ![1, 28]⟩
abbrev S1x112 : Shape := ⟨2, ![1, 112]⟩
abbrev S512x28 : Shape := ⟨2, ![512, 28]⟩
abbrev S8x28 : Shape := ⟨2, ![8, 28]⟩
abbrev S512x112 : Shape := ⟨2, ![512, 112]⟩
abbrev S112x112 : Shape := ⟨2, ![112, 112]⟩
abbrev S8x112 : Shape := ⟨2, ![8, 112]⟩
abbrev S112x16 : Shape := ⟨2, ![112, 16]⟩
abbrev S512x16 : Shape := ⟨2, ![512, 16]⟩
abbrev S512x4 : Shape := ⟨2, ![512, 4]⟩
abbrev S1x512x4 : Shape := ⟨3, ![1, 512, 4]⟩
abbrev S1x768 : Shape := ⟨2, ![1, 768]⟩
abbrev S768x768 : Shape := ⟨2, ![768, 768]⟩
abbrev S1242x768 : Shape := ⟨2, ![1242, 768]⟩
abbrev S512x1242 : Shape := ⟨2, ![512, 1242]⟩
abbrev S768x1242 : Shape := ⟨2, ![768, 1242]⟩

abbrev nBuf : Space → Nat
  | .hbm => 66
  | .vmem => 26
  | .smem => 0
  | _ => 0

abbrev bufTy : (tb : Table) → Fin (tcTables nBuf tb) → BufTy
  | .hbm, ⟨0, _⟩ => ⟨S1x4x2048x768, .f32⟩
  | .hbm, ⟨1, _⟩ => ⟨S8x3072, .f32⟩
  | .hbm, ⟨2, _⟩ => ⟨S8x4x3072, .f32⟩
  | .hbm, ⟨3, _⟩ => ⟨S8x4x3072, .f32⟩
  | .hbm, ⟨4, _⟩ => ⟨S8x16x3072, .f32⟩
  | .hbm, ⟨5, _⟩ => ⟨S8x4, .f32⟩
  | .hbm, ⟨6, _⟩ => ⟨S8x4, .f32⟩
  | .hbm, ⟨7, _⟩ => ⟨S8x4x4, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8x768, .f32⟩
  | .hbm, ⟨12, _⟩ => ⟨S8x768x768, .f32⟩
  | .hbm, ⟨13, _⟩ => ⟨S8x768x768, .f32⟩
  | .hbm, ⟨14, _⟩ => ⟨S8x1242x768, .f32⟩
  | .hbm, ⟨15, _⟩ => ⟨S8x1242x768, .f32⟩
  | .hbm, ⟨16, _⟩ => ⟨S8x768x1242, .f32⟩
  | .hbm, ⟨17, _⟩ => ⟨S8x768, .f32⟩
  | .hbm, ⟨18, _⟩ => ⟨S4x2048x768, .f32⟩
  | .hbm, ⟨19, _⟩ => ⟨S8x1x4x768, .f32⟩
  | .hbm, ⟨20, _⟩ => ⟨S8x4x4x768, .f32⟩
  | .hbm, ⟨21, _⟩ => ⟨S8x4x4x768, .f32⟩
  | .hbm, ⟨22, _⟩ => ⟨S8x4x4x768, .f32⟩
  | .hbm, ⟨23, _⟩ => ⟨S7x4x4x768, .f32⟩
  | .hbm, ⟨24, _⟩ => ⟨S8x4x4x768, .f32⟩
  | .hbm, ⟨25, _⟩ => ⟨S8x4x4x768, .f32⟩
  | .hbm, ⟨26, _⟩ => ⟨S8x4x4x768, .f32⟩
  | .hbm, ⟨27, _⟩ => ⟨S7x4x4x768, .f32⟩
  | .hbm, ⟨28, _⟩ => ⟨S8x16x4x768, .f32⟩
  | .hbm, ⟨29, _⟩ => ⟨S8x16x4x768, .f32⟩
  | .hbm, ⟨30, _⟩ => ⟨S8x16x4x768, .f32⟩
  | .hbm, ⟨31, _⟩ => ⟨S7x16x4x768, .f32⟩
  | .hbm, ⟨32, _⟩ => ⟨S4x768x7x4, .f32⟩
  | .hbm, ⟨33, _⟩ => ⟨S4x768x28, .f32⟩
  | .hbm, ⟨34, _⟩ => ⟨S4x768x7x4, .f32⟩
  | .hbm, ⟨35, _⟩ => ⟨S4x768x28, .f32⟩
  | .hbm, ⟨36, _⟩ => ⟨S4x768x7x16, .f32⟩
  | .hbm, ⟨37, _⟩ => ⟨S4x768x112, .f32⟩
  | .hbm, ⟨38, _⟩ => ⟨S4x768x168, .f32⟩
  | .hbm, ⟨39, _⟩ => ⟨S7, .f32⟩
  | .hbm, ⟨40, _⟩ => ⟨S7x4, .f32⟩
  | .hbm, ⟨41, _⟩ => ⟨S28, .f32⟩
  | .hbm, ⟨42, _⟩ => ⟨S7x4, .f32⟩
  | .hbm, ⟨43, _⟩ => ⟨S28, .f32⟩
  | .hbm, ⟨44, _⟩ => ⟨S7, .f32⟩
  | .hbm, ⟨45, _⟩ => ⟨S7x4, .f32⟩
  | .hbm, ⟨46, _⟩ => ⟨S28, .f32⟩
  | .hbm, ⟨47, _⟩ => ⟨S7x4, .f32⟩
  | .hbm, ⟨48, _⟩ => ⟨S28, .f32⟩
  | .hbm, ⟨49, _⟩ => ⟨S7, .f32⟩
  | .hbm, ⟨50, _⟩ => ⟨S7x16, .f32⟩
  | .hbm, ⟨51, _⟩ => ⟨S112, .f32⟩
  | .hbm, ⟨52, _⟩ => ⟨S7x4x4, .f32⟩
  | .hbm, ⟨53, _⟩ => ⟨S112, .f32⟩
  | .hbm, ⟨54, _⟩ => ⟨S336, .f32⟩
  | .hbm, ⟨55, _⟩ => ⟨S1x336, .f32⟩
  | .hbm, ⟨56, _⟩ => ⟨S8x1x768, .f32⟩
  | .hbm, ⟨57, _⟩ => ⟨S8x768x768, .bf16⟩
  | .hbm, ⟨58, _⟩ => ⟨S8x768x768, .bf16⟩
  | .hbm, ⟨59, _⟩ => ⟨S8x1242x768, .bf16⟩
  | .hbm, ⟨60, _⟩ => ⟨S8x1242x768, .bf16⟩
  | .hbm, ⟨61, _⟩ => ⟨S8x768x1242, .bf16⟩
  | .hbm, ⟨62, _⟩ => ⟨S4x768x168, .bf16⟩
  | .hbm, ⟨63, _⟩ => ⟨S4x2048x768, .f32⟩
  | .hbm, ⟨64, _⟩ => ⟨S2048x8, .f32⟩
  | .hbm, ⟨65, _⟩ => ⟨S2048x1, .f32⟩
  | .local _ .vmem, ⟨0, _⟩ => ⟨S4x512x768, .f32⟩
  | .local _ .vmem, ⟨1, _⟩ => ⟨S4x512x768, .f32⟩
  | .local _ .vmem, ⟨2, _⟩ => ⟨S4x768x168, .bf16⟩
  | .local _ .vmem, ⟨3, _⟩ => ⟨S1x336, .f32⟩
  | .local _ .vmem, ⟨4, _⟩ => ⟨S1x1x768, .f32⟩
  | .local _ .vmem, ⟨5, _⟩ => ⟨S1x1x768, .f32⟩
  | .local _ .vmem, ⟨6, _⟩ => ⟨S1x768x768, .bf16⟩
  | .local _ .vmem, ⟨7, _⟩ => ⟨S1x768x768, .bf16⟩
  | .local _ .vmem, ⟨8, _⟩ => ⟨S1x768x768, .bf16⟩
  | .local _ .vmem, ⟨9, _⟩ => ⟨S1x768x768, .bf16⟩
  | .local _ .vmem, ⟨10, _⟩ => ⟨S1x1242x768, .bf16⟩
  | .local _ .vmem, ⟨11, _⟩ => ⟨S1x1242x768, .bf16⟩
  | .local _ .vmem, ⟨12, _⟩ => ⟨S1x1242x768, .bf16⟩
  | .local _ .vmem, ⟨13, _⟩ => ⟨S1x1242x768, .bf16⟩
  | .local _ .vmem, ⟨14, _⟩ => ⟨S1x768x1242, .bf16⟩
  | .local _ .vmem, ⟨15, _⟩ => ⟨S1x768x1242, .bf16⟩
  | .local _ .vmem, ⟨16, _⟩ => ⟨S8x768, .f32⟩
  | .local _ .vmem, ⟨17, _⟩ => ⟨S4x512x768, .f32⟩
  | .local _ .vmem, ⟨18, _⟩ => ⟨S4x512x768, .f32⟩
  | .local _ .vmem, ⟨19, _⟩ => ⟨S512x8, .f32⟩
  | .local _ .vmem, ⟨20, _⟩ => ⟨S512x8, .f32⟩
  | .local _ .vmem, ⟨21, _⟩ => ⟨S512x1, .f32⟩
  | .local _ .vmem, ⟨22, _⟩ => ⟨S512x1, .f32⟩
  | .local _ .vmem, ⟨23, _⟩ => ⟨S512x8, .f32⟩
  | .local _ .vmem, ⟨24, _⟩ => ⟨S7x512x4, .f32⟩
  | .local _ .vmem, ⟨25, _⟩ => ⟨S7x512x4, .f32⟩
  | _, _ => ⟨S1x4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev main_v45_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![4, 7], ![false, false]⟩

def k0_off1 (i : grid0.Coords) : Fin 3 → Nat :=
  let arg1 : BitVec 32 := BitVec.ofNat 32 (i 1).val
  let v11 : Index := Scalar.indexCast arg1
  let c0_9 : Index := 0#32
  let c0_10 : Index := 0#32
  ![v11.toNat, 0, 0]
def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x768x168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1242x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1242x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x768x1242 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S8x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4x512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "inv_d" => some ((768⁻¹ : ℝ) : EReal)
  | "inv_nd" => some ((3072⁻¹ : ℝ) : EReal)
  | _ => none
-- ==== ReferenceIdeal.lean ====
abbrev S1x4x2048x768 : Shape := ⟨4, ![1, 4, 2048, 768]⟩
abbrev S8x3072 : Shape := ⟨2, ![8, 3072]⟩
abbrev S8x4x3072 : Shape := ⟨3, ![8, 4, 3072]⟩
abbrev S8x16x3072 : Shape := ⟨3, ![8, 16, 3072]⟩
abbrev S8x4 : Shape := ⟨2, ![8, 4]⟩
abbrev S8x4x4 : Shape := ⟨3, ![8, 4, 4]⟩
abbrev S8 : Shape := ⟨1, ![8]⟩
abbrev S8x768 : Shape := ⟨2, ![8, 768]⟩
abbrev S8x768x768 : Shape := ⟨3, ![8, 768, 768]⟩
abbrev S8x1242x768 : Shape := ⟨3, ![8, 1242, 768]⟩
abbrev S8x768x1242 : Shape := ⟨3, ![8, 768, 1242]⟩
abbrev S4x2048x768 : Shape := ⟨3, ![4, 2048, 768]⟩
abbrev S_ : Shape := ⟨0, ![]⟩
abbrev S2048x768 : Shape := ⟨2, ![2048, 768]⟩
abbrev S768x8 : Shape := ⟨2, ![768, 8]⟩
abbrev S2048x8 : Shape := ⟨2, ![2048, 8]⟩
abbrev S2048 : Shape := ⟨1, ![2048]⟩
abbrev S2048x1 : Shape := ⟨2, ![2048, 1]⟩
abbrev S2048x4x768 : Shape := ⟨3, ![2048, 4, 768]⟩
abbrev S2048x3072 : Shape := ⟨2, ![2048, 3072]⟩
abbrev S1x2048x3072 : Shape := ⟨3, ![1, 2048, 3072]⟩
abbrev S7x3072 : Shape := ⟨2, ![7, 3072]⟩
abbrev S7x1x3072 : Shape := ⟨3, ![7, 1, 3072]⟩
abbrev S7x2048x3072 : Shape := ⟨3, ![7, 2048, 3072]⟩
abbrev S7 : Shape := ⟨1, ![7]⟩
abbrev S7x1x1 : Shape := ⟨3, ![7, 1, 1]⟩
abbrev S7x4x3072 : Shape := ⟨3, ![7, 4, 3072]⟩
abbrev S7x2048x4 : Shape := ⟨3, ![7, 2048, 4]⟩
abbrev S7x4 : Shape := ⟨2, ![7, 4]⟩
abbrev S7x1x4 : Shape := ⟨3, ![7, 1, 4]⟩
abbrev S7x16x3072 : Shape := ⟨3, ![7, 16, 3072]⟩
abbrev S7x2048x16 : Shape := ⟨3, ![7, 2048, 16]⟩
abbrev S7x2048x4x4 : Shape := ⟨4, ![7, 2048, 4, 4]⟩
abbrev S7x1x1x1 : Shape := ⟨4, ![7, 1, 1, 1]⟩
abbrev S7x4x4 : Shape := ⟨3, ![7, 4, 4]⟩
abbrev S7x1x4x4 : Shape := ⟨4, ![7, 1, 4, 4]⟩
abbrev S7x2048x4x1 : Shape := ⟨4, ![7, 2048, 4, 1]⟩
abbrev S7x2048x1x4 : Shape := ⟨4, ![7, 2048, 1, 4]⟩
abbrev S2048x768x7 : Shape := ⟨3, ![2048, 768, 7]⟩
abbrev S7x2048x768 : Shape := ⟨3, ![7, 2048, 768]⟩
abbrev S7x2048 : Shape := ⟨2, ![7, 2048]⟩
abbrev S7x2048x1 : Shape := ⟨3, ![7, 2048, 1]⟩
abbrev S7x768 : Shape := ⟨2, ![7, 768]⟩
abbrev S7x1x768 : Shape := ⟨3, ![7, 1, 768]⟩
abbrev S7x768x768 : Shape := ⟨3, ![7, 768, 768]⟩
abbrev S7x1242x768 : Shape := ⟨3, ![7, 1242, 768]⟩
abbrev S7x2048x1242 : Shape := ⟨3, ![7, 2048, 1242]⟩
abbrev S7x768x1242 : Shape := ⟨3, ![7, 768, 1242]⟩
abbrev S2048x7 : Shape := ⟨2, ![2048, 7]⟩
abbrev S7x1x2048x1 : Shape := ⟨4, ![7, 1, 2048, 1]⟩
abbrev S2048x768x7x4 : Shape := ⟨4, ![2048, 768, 7, 4]⟩
abbrev S7x4x2048x768 : Shape := ⟨4, ![7, 4, 2048, 768]⟩
abbrev S7x4x2048 : Shape := ⟨3, ![7, 4, 2048]⟩
abbrev S7x4x2048x1 : Shape := ⟨4, ![7, 4, 2048, 1]⟩
abbrev S7x1x2048x768 : Shape := ⟨4, ![7, 1, 2048, 768]⟩

abbrev nBuf : Space → Nat
  | .hbm => 281
  | .vmem => 0
  | .smem => 0
  | _ => 0

abbrev hbmTy0_0 (i : Nat) : BufTy := match i % 128 with
  | 0 => ⟨S1x4x2048x768, .f32⟩
  | 1 => ⟨S8x3072, .f32⟩
  | 2 => ⟨S8x4x3072, .f32⟩
  | 3 => ⟨S8x4x3072, .f32⟩
  | 4 => ⟨S8x16x3072, .f32⟩
  | 5 => ⟨S8x4, .f32⟩
  | 6 => ⟨S8x4, .f32⟩
  | 7 => ⟨S8x4x4, .f32⟩
  | 8 => ⟨S8, .f32⟩
  | 9 => ⟨S8, .f32⟩
  | 10 => ⟨S8, .f32⟩
  | 11 => ⟨S8x768, .f32⟩
  | 12 => ⟨S8x768x768, .f32⟩
  | 13 => ⟨S8x768x768, .f32⟩
  | 14 => ⟨S8x1242x768, .f32⟩
  | 15 => ⟨S8x1242x768, .f32⟩
  | 16 => ⟨S8x768x1242, .f32⟩
  | 17 => ⟨S8x768, .f32⟩
  | 18 => ⟨S4x2048x768, .f32⟩
  | 19 => ⟨S_, .f32⟩
  | 20 => ⟨S2048x768, .f32⟩
  | 21 => ⟨S_, .f32⟩
  | 22 => ⟨S2048x768, .f32⟩
  | 23 => ⟨S2048x768, .f32⟩
  | 24 => ⟨S768x8, .f32⟩
  | 25 => ⟨S2048x8, .f32⟩
  | 26 => ⟨S_, .f32⟩
  | 27 => ⟨S2048, .f32⟩
  | 28 => ⟨S_, .f32⟩
  | 29 => ⟨S2048, .f32⟩
  | 30 => ⟨S2048, .f32⟩
  | 31 => ⟨S2048x1, .f32⟩
  | 32 => ⟨S2048x8, .f32⟩
  | 33 => ⟨S2048x8, .f32⟩
  | 34 => ⟨S2048x8, .f32⟩
  | 35 => ⟨S_, .f32⟩
  | 36 => ⟨S2048, .f32⟩
  | 37 => ⟨S2048x1, .f32⟩
  | 38 => ⟨S2048x8, .f32⟩
  | 39 => ⟨S2048x8, .f32⟩
  | 40 => ⟨S2048x8, .i32⟩
  | 41 => ⟨S2048x8, .f32⟩
  | 42 => ⟨S2048x8, .f32⟩
  | 43 => ⟨S2048x8, .f32⟩
  | 44 => ⟨S2048x8, .i32⟩
  | 45 => ⟨S_, .f32⟩
  | 46 => ⟨S_, .f32⟩
  | 47 => ⟨S2048x8, .f32⟩
  | 48 => ⟨S2048x8, .f32⟩
  | 49 => ⟨S_, .f32⟩
  | 50 => ⟨S2048x8, .f32⟩
  | 51 => ⟨S2048x8, .i1⟩
  | 52 => ⟨S_, .i32⟩
  | 53 => ⟨S2048x8, .i32⟩
  | 54 => ⟨S2048x8, .i1⟩
  | 55 => ⟨S2048x8, .i1⟩
  | 56 => ⟨S_, .i32⟩
  | 57 => ⟨S2048x8, .i32⟩
  | 58 => ⟨S2048x8, .i1⟩
  | 59 => ⟨S2048x8, .i1⟩
  | 60 => ⟨S2048x8, .f32⟩
  | 61 => ⟨S2048x8, .f32⟩
  | 62 => ⟨S2048x8, .i32⟩
  | 63 => ⟨S2048x8, .f32⟩
  | 64 => ⟨S_, .f32⟩
  | 65 => ⟨S2048x8, .f32⟩
  | 66 => ⟨S2048x8, .i1⟩
  | 67 => ⟨S2048x8, .f32⟩
  | 68 => ⟨S2048x8, .f32⟩
  | 69 => ⟨S_, .f32⟩
  | 70 => ⟨S2048x8, .f32⟩
  | 71 => ⟨S2048x8, .f32⟩
  | 72 => ⟨S2048x8, .f32⟩
  | 73 => ⟨S_, .f32⟩
  | 74 => ⟨S2048, .f32⟩
  | 75 => ⟨S2048x1, .f32⟩
  | 76 => ⟨S2048x4x768, .f32⟩
  | 77 => ⟨S2048x3072, .f32⟩
  | 78 => ⟨S2048x3072, .f32⟩
  | 79 => ⟨S_, .f32⟩
  | 80 => ⟨S2048, .f32⟩
  | 81 => ⟨S2048x1, .f32⟩
  | 82 => ⟨S_, .f32⟩
  | 83 => ⟨S2048x1, .f32⟩
  | 84 => ⟨S2048x1, .f32⟩
  | 85 => ⟨S_, .f32⟩
  | 86 => ⟨S2048x1, .f32⟩
  | 87 => ⟨S2048x1, .f32⟩
  | 88 => ⟨S2048x1, .f32⟩
  | 89 => ⟨S2048x3072, .f32⟩
  | 90 => ⟨S2048x3072, .f32⟩
  | 91 => ⟨S1x2048x3072, .f32⟩
  | 92 => ⟨S7x3072, .f32⟩
  | 93 => ⟨S7x1x3072, .f32⟩
  | 94 => ⟨S7x2048x3072, .f32⟩
  | 95 => ⟨S7x2048x3072, .f32⟩
  | 96 => ⟨S7x2048x3072, .f32⟩
  | 97 => ⟨S7, .f32⟩
  | 98 => ⟨S7x1x1, .f32⟩
  | 99 => ⟨S7x4x3072, .f32⟩
  | 100 => ⟨S7x2048x4, .f32⟩
  | 101 => ⟨S7x2048x4, .f32⟩
  | 102 => ⟨S7x2048x4, .f32⟩
  | 103 => ⟨S7x4, .f32⟩
  | 104 => ⟨S7x1x4, .f32⟩
  | 105 => ⟨S7x2048x4, .f32⟩
  | 106 => ⟨S7x2048x4, .f32⟩
  | 107 => ⟨S7x2048x4, .f32⟩
  | 108 => ⟨S7x2048x4, .f32⟩
  | 109 => ⟨S_, .f32⟩
  | 110 => ⟨S7x2048x4, .f32⟩
  | 111 => ⟨S7x2048x4, .f32⟩
  | 112 => ⟨S_, .f32⟩
  | 113 => ⟨S7x2048x4, .f32⟩
  | 114 => ⟨S7x2048x4, .f32⟩
  | 115 => ⟨S7, .f32⟩
  | 116 => ⟨S7x1x1, .f32⟩
  | 117 => ⟨S7x4x3072, .f32⟩
  | 118 => ⟨S7x2048x4, .f32⟩
  | 119 => ⟨S7x2048x4, .f32⟩
  | 120 => ⟨S7x2048x4, .f32⟩
  | 121 => ⟨S7x4, .f32⟩
  | 122 => ⟨S7x1x4, .f32⟩
  | 123 => ⟨S7x2048x4, .f32⟩
  | 124 => ⟨S7x2048x4, .f32⟩
  | 125 => ⟨S7x2048x4, .f32⟩
  | 126 => ⟨S7x2048x4, .f32⟩
  | 127 => ⟨S_, .f32⟩
  | _ => ⟨S1x4x2048x768, .f32⟩

abbrev hbmTy0_1 (i : Nat) : BufTy := match i % 128 with
  | 0 => ⟨S7x2048x4, .f32⟩
  | 1 => ⟨S7x2048x4, .f32⟩
  | 2 => ⟨S_, .f32⟩
  | 3 => ⟨S7x2048x4, .f32⟩
  | 4 => ⟨S7x2048x4, .f32⟩
  | 5 => ⟨S_, .f32⟩
  | 6 => ⟨S7x2048x4, .f32⟩
  | 7 => ⟨S7x2048x4, .f32⟩
  | 8 => ⟨S7x16x3072, .f32⟩
  | 9 => ⟨S7x2048x16, .f32⟩
  | 10 => ⟨S7x2048x4x4, .f32⟩
  | 11 => ⟨S7, .f32⟩
  | 12 => ⟨S7x1x1x1, .f32⟩
  | 13 => ⟨S7x2048x4x4, .f32⟩
  | 14 => ⟨S7x2048x4x4, .f32⟩
  | 15 => ⟨S7x4x4, .f32⟩
  | 16 => ⟨S7x1x4x4, .f32⟩
  | 17 => ⟨S7x2048x4x4, .f32⟩
  | 18 => ⟨S7x2048x4x4, .f32⟩
  | 19 => ⟨S7x2048x4x4, .f32⟩
  | 20 => ⟨S_, .f32⟩
  | 21 => ⟨S7x2048x4, .f32⟩
  | 22 => ⟨S7x2048x4x1, .f32⟩
  | 23 => ⟨S7x2048x4x4, .f32⟩
  | 24 => ⟨S7x2048x4x4, .f32⟩
  | 25 => ⟨S_, .f32⟩
  | 26 => ⟨S7x2048x4, .f32⟩
  | 27 => ⟨S7x2048x1x4, .f32⟩
  | 28 => ⟨S7x2048x4x4, .f32⟩
  | 29 => ⟨S7x2048x4x4, .f32⟩
  | 30 => ⟨S_, .f32⟩
  | 31 => ⟨S7x2048x4, .f32⟩
  | 32 => ⟨S7x2048x4x1, .f32⟩
  | 33 => ⟨S7x2048x4x4, .f32⟩
  | 34 => ⟨S7x2048x4x4, .f32⟩
  | 35 => ⟨S_, .f32⟩
  | 36 => ⟨S7x2048x4, .f32⟩
  | 37 => ⟨S7x2048x1x4, .f32⟩
  | 38 => ⟨S7x2048x4x4, .f32⟩
  | 39 => ⟨S7x2048x4x4, .f32⟩
  | 40 => ⟨S_, .f32⟩
  | 41 => ⟨S7x2048x4, .f32⟩
  | 42 => ⟨S7x2048x4x1, .f32⟩
  | 43 => ⟨S7x2048x4x4, .f32⟩
  | 44 => ⟨S7x2048x4x4, .f32⟩
  | 45 => ⟨S_, .f32⟩
  | 46 => ⟨S7x2048x4, .f32⟩
  | 47 => ⟨S7x2048x1x4, .f32⟩
  | 48 => ⟨S7x2048x4x4, .f32⟩
  | 49 => ⟨S7x2048x4x4, .f32⟩
  | 50 => ⟨S_, .f32⟩
  | 51 => ⟨S7x2048x4, .f32⟩
  | 52 => ⟨S7x2048x4x1, .f32⟩
  | 53 => ⟨S7x2048x4x4, .f32⟩
  | 54 => ⟨S7x2048x4x4, .f32⟩
  | 55 => ⟨S_, .f32⟩
  | 56 => ⟨S7x2048x4, .f32⟩
  | 57 => ⟨S7x2048x1x4, .f32⟩
  | 58 => ⟨S7x2048x4x4, .f32⟩
  | 59 => ⟨S7x2048x4x4, .f32⟩
  | 60 => ⟨S_, .f32⟩
  | 61 => ⟨S7x2048x4, .f32⟩
  | 62 => ⟨S7x2048x4x1, .f32⟩
  | 63 => ⟨S7x2048x4x4, .f32⟩
  | 64 => ⟨S7x2048x4x4, .f32⟩
  | 65 => ⟨S_, .f32⟩
  | 66 => ⟨S7x2048x4, .f32⟩
  | 67 => ⟨S7x2048x1x4, .f32⟩
  | 68 => ⟨S7x2048x4x4, .f32⟩
  | 69 => ⟨S7x2048x4x4, .f32⟩
  | 70 => ⟨S_, .f32⟩
  | 71 => ⟨S7x2048x4, .f32⟩
  | 72 => ⟨S7x2048x4x1, .f32⟩
  | 73 => ⟨S7x2048x4x4, .f32⟩
  | 74 => ⟨S7x2048x4x4, .f32⟩
  | 75 => ⟨S_, .f32⟩
  | 76 => ⟨S7x2048x4, .f32⟩
  | 77 => ⟨S7x2048x1x4, .f32⟩
  | 78 => ⟨S7x2048x4x4, .f32⟩
  | 79 => ⟨S7x2048x4x4, .f32⟩
  | 80 => ⟨S2048x768x7, .f32⟩
  | 81 => ⟨S7x2048x768, .f32⟩
  | 82 => ⟨S7x2048x768, .f32⟩
  | 83 => ⟨S_, .f32⟩
  | 84 => ⟨S7x2048, .f32⟩
  | 85 => ⟨S7x2048x1, .f32⟩
  | 86 => ⟨S_, .f32⟩
  | 87 => ⟨S7x2048x1, .f32⟩
  | 88 => ⟨S7x2048x1, .f32⟩
  | 89 => ⟨S_, .f32⟩
  | 90 => ⟨S7x2048x1, .f32⟩
  | 91 => ⟨S7x2048x1, .f32⟩
  | 92 => ⟨S7x2048x1, .f32⟩
  | 93 => ⟨S7x2048x768, .f32⟩
  | 94 => ⟨S7x2048x768, .f32⟩
  | 95 => ⟨S7x768, .f32⟩
  | 96 => ⟨S7x1x768, .f32⟩
  | 97 => ⟨S7x2048x768, .f32⟩
  | 98 => ⟨S7x2048x768, .f32⟩
  | 99 => ⟨S7x768x768, .f32⟩
  | 100 => ⟨S7x2048x768, .f32⟩
  | 101 => ⟨S7x2048x768, .f32⟩
  | 102 => ⟨S7x2048x768, .f32⟩
  | 103 => ⟨S_, .f32⟩
  | 104 => ⟨S7x2048x768, .f32⟩
  | 105 => ⟨S7x2048x768, .f32⟩
  | 106 => ⟨S_, .f32⟩
  | 107 => ⟨S7x2048x768, .f32⟩
  | 108 => ⟨S7x2048x768, .f32⟩
  | 109 => ⟨S7x2048x768, .f32⟩
  | 110 => ⟨S7x768x768, .f32⟩
  | 111 => ⟨S7x2048x768, .f32⟩
  | 112 => ⟨S7x2048x768, .f32⟩
  | 113 => ⟨S7x2048x768, .f32⟩
  | 114 => ⟨S_, .f32⟩
  | 115 => ⟨S7x2048x768, .f32⟩
  | 116 => ⟨S7x2048x768, .f32⟩
  | 117 => ⟨S_, .f32⟩
  | 118 => ⟨S7x2048x768, .f32⟩
  | 119 => ⟨S7x2048x768, .f32⟩
  | 120 => ⟨S7x1242x768, .f32⟩
  | 121 => ⟨S7x2048x1242, .f32⟩
  | 122 => ⟨S7x1242x768, .f32⟩
  | 123 => ⟨S7x2048x1242, .f32⟩
  | 124 => ⟨S7x2048x1242, .f32⟩
  | 125 => ⟨S7x2048x1242, .f32⟩
  | 126 => ⟨S_, .f32⟩
  | 127 => ⟨S7x2048x1242, .f32⟩
  | _ => ⟨S1x4x2048x768, .f32⟩

abbrev hbmTy0_2 (i : Nat) : BufTy := match i % 128 with
  | 0 => ⟨S7x2048x1242, .f32⟩
  | 1 => ⟨S_, .f32⟩
  | 2 => ⟨S7x2048x1242, .f32⟩
  | 3 => ⟨S7x2048x1242, .f32⟩
  | 4 => ⟨S7x2048x1242, .f32⟩
  | 5 => ⟨S7x2048x1242, .f32⟩
  | 6 => ⟨S7x768x1242, .f32⟩
  | 7 => ⟨S7x2048x768, .f32⟩
  | 8 => ⟨S7x2048x768, .f32⟩
  | 9 => ⟨S2048x7, .f32⟩
  | 10 => ⟨S7x2048, .f32⟩
  | 11 => ⟨S7x1x2048x1, .f32⟩
  | 12 => ⟨S2048x768x7x4, .f32⟩
  | 13 => ⟨S7x4x2048x768, .f32⟩
  | 14 => ⟨S7x4x2048, .f32⟩
  | 15 => ⟨S7x4x2048x1, .f32⟩
  | 16 => ⟨S7x1x2048x768, .f32⟩
  | 17 => ⟨S7x4x2048x768, .f32⟩
  | 18 => ⟨S7x4x2048x768, .f32⟩
  | 19 => ⟨S7x4x2048x768, .f32⟩
  | 20 => ⟨S7x4x2048x768, .f32⟩
  | 21 => ⟨S7x4x2048x768, .f32⟩
  | 22 => ⟨S7x4x2048x768, .f32⟩
  | 23 => ⟨S_, .f32⟩
  | 24 => ⟨S4x2048x768, .f32⟩
  | _ => ⟨S1x4x2048x768, .f32⟩

abbrev hbmTy (i : Nat) : BufTy := match i / 128 with
  | 0 => hbmTy0_0 i
  | 1 => hbmTy0_1 i
  | 2 => hbmTy0_2 i
  | _ => ⟨S1x4x2048x768, .f32⟩

abbrev bufTy : (tb : Table) → Fin (tcTables nBuf tb) → BufTy
  | .hbm, ⟨i, _⟩ => hbmTy i
  | _, _ => ⟨S1x4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19_0 : Ref sig .tc := ⟨.hbm, 42, rfl⟩
abbrev main_v19_1 : Ref sig .tc := ⟨.hbm, 43, rfl⟩
abbrev main_v19_2 : Ref sig .tc := ⟨.hbm, 44, rfl⟩
abbrev main_call0_call0_cst : Ref sig .tc := ⟨.hbm, 45, rfl⟩
abbrev main_call0_call0_v0 : Ref sig .tc := ⟨.hbm, 46, rfl⟩
abbrev main_v20 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩
abbrev main_v23 : Ref sig .tc := ⟨.hbm, 51, rfl⟩
abbrev main_c : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32_0 : Ref sig .tc := ⟨.hbm, 62, rfl⟩
abbrev main_v32_1 : Ref sig .tc := ⟨.hbm, 63, rfl⟩
abbrev main_cst_6 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_7 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_8 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_9 : Ref sig .tc := ⟨.hbm, 79, rfl⟩
abbrev main_v45 : Ref sig .tc := ⟨.hbm, 80, rfl⟩
abbrev main_v46 : Ref sig .tc := ⟨.hbm, 81, rfl⟩
abbrev main_cst_10 : Ref sig .tc := ⟨.hbm, 82, rfl⟩
abbrev main_v47 : Ref sig .tc := ⟨.hbm, 83, rfl⟩
abbrev main_v48 : Ref sig .tc := ⟨.hbm, 84, rfl⟩
abbrev main_cst_11 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_12 : Ref sig .tc := ⟨.hbm, 109, rfl⟩
abbrev main_v72 : Ref sig .tc := ⟨.hbm, 110, rfl⟩
abbrev main_v73 : Ref sig .tc := ⟨.hbm, 111, rfl⟩
abbrev main_cst_13 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_14 : Ref sig .tc := ⟨.hbm, 127, rfl⟩
abbrev main_v88 : Ref sig .tc := ⟨.hbm, 128, rfl⟩
abbrev main_v89 : Ref sig .tc := ⟨.hbm, 129, rfl⟩
abbrev main_cst_15 : Ref sig .tc := ⟨.hbm, 130, rfl⟩
abbrev main_v90 : Ref sig .tc := ⟨.hbm, 131, rfl⟩
abbrev main_v91 : Ref sig .tc := ⟨.hbm, 132, rfl⟩
abbrev main_cst_16 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_17 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_18 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_19 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_20 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_21 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_22 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_23 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_24 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_25 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_26 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_cst_27 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_28 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_29 : Ref sig .tc := ⟨.hbm, 211, rfl⟩
abbrev main_v157 : Ref sig .tc := ⟨.hbm, 212, rfl⟩
abbrev main_v158 : Ref sig .tc := ⟨.hbm, 213, rfl⟩
abbrev main_cst_30 : Ref sig .tc := ⟨.hbm, 214, rfl⟩
abbrev main_v159 : Ref sig .tc := ⟨.hbm, 215, rfl⟩
abbrev main_v160 : Ref sig .tc := ⟨.hbm, 216, rfl⟩
abbrev main_cst_31 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_call1_v0 : Ref sig .tc := ⟨.hbm, 229, rfl⟩
abbrev main_call1_v1 : Ref sig .tc := ⟨.hbm, 230, rfl⟩
abbrev main_call1_cst : Ref sig .tc := ⟨.hbm, 231, rfl⟩
abbrev main_call1_v2 : Ref sig .tc := ⟨.hbm, 232, rfl⟩
abbrev main_call1_v3 : Ref sig .tc := ⟨.hbm, 233, rfl⟩
abbrev main_call1_cst_0 : Ref sig .tc := ⟨.hbm, 234, rfl⟩
abbrev main_call1_v4 : Ref sig .tc := ⟨.hbm, 235, rfl⟩
abbrev main_call1_v5 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_cst_32 : Ref sig .tc := ⟨.hbm, 242, rfl⟩
abbrev main_v177 : Ref sig .tc := ⟨.hbm, 243, rfl⟩
abbrev main_v178 : Ref sig .tc := ⟨.hbm, 244, rfl⟩
abbrev main_cst_33 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_call2_v0 : Ref sig .tc := ⟨.hbm, 252, rfl⟩
abbrev main_call2_v1 : Ref sig .tc := ⟨.hbm, 253, rfl⟩
abbrev main_call2_cst : Ref sig .tc := ⟨.hbm, 254, rfl⟩
abbrev main_call2_v2 : Ref sig .tc := ⟨.hbm, 255, rfl⟩
abbrev main_call2_v3 : Ref sig .tc := ⟨.hbm, 256, rfl⟩
abbrev main_call2_cst_0 : Ref sig .tc := ⟨.hbm, 257, rfl⟩
abbrev main_call2_v4 : Ref sig .tc := ⟨.hbm, 258, rfl⟩
abbrev main_call2_v5 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_cst_34 : Ref sig .tc := ⟨.hbm, 279, rfl⟩
abbrev main_v204 : Ref sig .tc := ⟨.hbm, 280, rfl⟩

abbrev nD : Nat := 1
abbrev τ : Topo := Topo.v7x

variable {F : FTy → Type} [FloatOps F]
-- ==== Proof.Run.Conds.lean ====
/- What the runs of the kernel body share: the one condition, where the outputs are idle, the staging memrefs. -/
module

public import proofs.«01_k».proof.Proof.Gen.KernelIdeal.Skeleton
public import proofs.«01_k».proof.Proof.Gen.KernelIdeal.Frame
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's one condition at a point: the first expert of a token tile. -/
abbrev cond0_0 (i : grid0.Coords) : Prop := k0_cond1 i = 1#1
/-- It holds at the points ≡ 0 (mod 7) — by arithmetic of the point. -/
theorem hcond0_0 : ∀ t : Fin cfg0.N, cond0_0 (grid0.coords t) ↔ t.val % 7 = 0 :=
  (fun t => by
    have ht : t.val < 28 := Nat.lt_of_lt_of_eq t.isLt N_0
    have e0 : (grid0.coords t 0).val = t.val / 7 % 4 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x512x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x768x168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x336 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x768x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x768x768 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1242x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1242x768 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x768x1242 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x768 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x512x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x8 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S512x8 .f32 := Memref.whole cc0_scratch0
abbrev scM0_1 : Memref sig .tc .vmem S7x512x4 .f32 := Memref.whole cc0_scratch1
abbrev scM0_2 : Memref sig .tc .vmem S7x512x4 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Output 10 is stored at every point. -/
theorem liveAt0_10 : ∀ t : Fin cfg0.N, cfg0.idle 10 (grid0.coords t) = false := fun _ => rfl

/-- Whether output 11's buffer holds nothing the body stored since the last write-back, position by position: only before
    the first expert of a token tile. -/
def freshTab0_11 : ℕ → Bool
  | 0 => true
  | n + 1 => (n + 1) % 7 == 0
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
theorem liveAt0_11_A : ∀ t : Fin cfg0.N, cond0_0 (grid0.coords t) → cfg0.idle 11 (grid0.coords t) = false := by decide +kernel
theorem idleAt0_11_B : ∀ t : Fin cfg0.N, ¬cond0_0 (grid0.coords t) → cfg0.idle 11 (grid0.coords t) = true := by decide +kernel
theorem notFresh0_11_B : ∀ t : Fin cfg0.N, ¬cond0_0 (grid0.coords t) → cfg0.fresh 11 t.val = false := by
  intro t; rw [fresh0_11_eq t]; revert t; decide +kernel

/-- Whether output 12's buffer holds nothing the body stored since the last write-back, position by position: only before
    the first expert of a token tile. -/
def freshTab0_12 : ℕ → Bool
  | 0 => true
  | n + 1 => (n + 1) % 7 == 0
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
theorem liveAt0_12_A : ∀ t : Fin cfg0.N, cond0_0 (grid0.coords t) → cfg0.idle 12 (grid0.coords t) = false := by decide +kernel
theorem idleAt0_12_B : ∀ t : Fin cfg0.N, ¬cond0_0 (grid0.coords t) → cfg0.idle 12 (grid0.coords t) = true := by decide +kernel
theorem notFresh0_12_B : ∀ t : Fin cfg0.N, ¬cond0_0 (grid0.coords t) → cfg0.fresh 12 t.val = false := by
  intro t; rw [fresh0_12_eq t]; revert t; decide +kernel

/-- A staging buffer of output 10, through which its contents are stated. -/
abbrev VO0_10 : View sig .tc .vmem S4x512x768 .f32 := (Memref.whole cc0_stg10_0 : Memref sig .tc .vmem S4x512x768 .f32).view
/-- A staging buffer of output 11, through which its contents are stated. -/
abbrev VO0_11 : View sig .tc .vmem S512x8 .f32 := (Memref.whole cc0_stg11_0 : Memref sig .tc .vmem S512x8 .f32).view
/-- A staging buffer of output 12, through which its contents are stated. -/
abbrev VO0_12 : View sig .tc .vmem S512x1 .f32 := (Memref.whole cc0_stg12_0 : Memref sig .tc .vmem S512x1 .f32).view
/-- The two scratch buffers carried between points, as views. -/
abbrev VS0_1 : View sig .tc .vmem S7x512x4 .f32 := scM0_1.view
abbrev VS0_2 : View sig .tc .vmem S7x512x4 .f32 := scM0_2.view

end Cert.KernelIdeal.Hand

end
-- ==== Proof.Run.CaseA.lean ====
/- The kernel body at the first expert of a token tile: its run, with the pieces it stores. -/
module

public import proofs.«01_k».proof.Proof.Run.Conds

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first expert of a token tile: what the body's stores leave in the three outputs' buffers and in the two carried
    scratch buffers, as pieces, with the body's triple. -/
noncomputable def bodyRunA (c : Dev nD) (i : grid0.Coords) (arg2 : Memref sig .tc .vmem S4x512x768 .f32) (harg2 : arg2.IsWhole) (arg3 : Memref sig .tc .vmem S4x768x168 .bf16) (harg3 : arg3.IsWhole) (arg4 : Memref sig .tc .vmem S1x336 .f32) (harg4 : arg4.IsWhole) (arg5 : Memref sig .tc .vmem S1x1x768 .f32) (harg5 : arg5.IsWhole) (arg6 : Memref sig .tc .vmem S1x768x768 .bf16) (harg6 : arg6.IsWhole) (arg7 : Memref sig .tc .vmem S1x768x768 .bf16) (harg7 : arg7.IsWhole) (arg8 : Memref sig .tc .vmem S1x1242x768 .bf16) (harg8 : arg8.IsWhole) (arg9 : Memref sig .tc .vmem S1x1242x768 .bf16) (harg9 : arg9.IsWhole) (arg10 : Memref sig .tc .vmem S1x768x1242 .bf16) (harg10 : arg10.IsWhole) (arg11 : Memref sig .tc .vmem S8x768 .f32) (harg11 : arg11.IsWhole) (arg12 : Memref sig .tc .vmem S4x512x768 .f32) (harg12 : arg12.IsWhole) (arg13 : Memref sig .tc .vmem S512x8 .f32) (harg13 : arg13.IsWhole) (arg14 : Memref sig .tc .vmem S512x1 .f32) (harg14 : arg14.IsWhole) (arg15 : Memref sig .tc .vmem S512x8 .f32) (harg15 : arg15.IsWhole) (arg16 : Memref sig .tc .vmem S7x512x4 .f32) (harg16 : arg16.IsWhole) (arg17 : Memref sig .tc .vmem S7x512x4 .f32) (harg17 : arg17.IsWhole) (hc0 : cond0_0 i)
    (x0 : Vec F S4x512x768 .f32) (x1 : Vec F S4x768x168 .bf16) (x2 : Vec F S1x336 .f32) (x3 : Vec F S1x1x768 .f32) (x4 : Vec F S1x768x768 .bf16) (x5 : Vec F S1x768x768 .bf16) (x6 : Vec F S1x1242x768 .bf16) (x7 : Vec F S1x1242x768 .bf16) (x8 : Vec F S1x768x1242 .bf16) (x9 : Vec F S8x768 .f32) :
    Σ' (L10 : List (View.Piece (Elt F) S4x512x768 .f32)), Σ' (L11 : List (View.Piece (Elt F) S512x8 .f32)), Σ' (L12 : List (View.Piece (Elt F) S512x1 .f32)), Σ' (LS1 : List (View.Piece (Elt F) S7x512x4 .f32)), { LS2 : List (View.Piece (Elt F) S7x512x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ d, owns (c : Thread nD τ) arg15 fullShare d) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2)) -∗ K ⟨⟩))
          ⊢ wp frame (wpE (defs₀ (F := F)) Variants.none c none) E (cc0__moe_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0__moe_body_eq_skeleton]; unfold cc0__moe_body_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [HS0]
    · iexists _, _; isplitr; swap; · iexact HS0
      ipureintro; rfl
    isplitl [HS1]; · iexists _; iexact HS1
    iexists _; iexact HS2

end Cert.KernelIdeal.Hand

end
-- ==== Proof.Run.CaseB.lean ====
/- The kernel body at the later experts of a token tile: its run, with the pieces it stores. -/
module

public import proofs.«01_k».proof.Proof.Run.CaseA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At any later expert of a token tile: what the body's stores leave in output 10's buffer, as pieces, with the body's
    triple; the body reads the two carried scratch buffers and leaves outputs 11, 12 and the first scratch alone. -/
noncomputable def bodyRunB (c : Dev nD) (i : grid0.Coords) (arg2 : Memref sig .tc .vmem S4x512x768 .f32) (harg2 : arg2.IsWhole) (arg3 : Memref sig .tc .vmem S4x768x168 .bf16) (harg3 : arg3.IsWhole) (arg4 : Memref sig .tc .vmem S1x336 .f32) (harg4 : arg4.IsWhole) (arg5 : Memref sig .tc .vmem S1x1x768 .f32) (harg5 : arg5.IsWhole) (arg6 : Memref sig .tc .vmem S1x768x768 .bf16) (harg6 : arg6.IsWhole) (arg7 : Memref sig .tc .vmem S1x768x768 .bf16) (harg7 : arg7.IsWhole) (arg8 : Memref sig .tc .vmem S1x1242x768 .bf16) (harg8 : arg8.IsWhole) (arg9 : Memref sig .tc .vmem S1x1242x768 .bf16) (harg9 : arg9.IsWhole) (arg10 : Memref sig .tc .vmem S1x768x1242 .bf16) (harg10 : arg10.IsWhole) (arg11 : Memref sig .tc .vmem S8x768 .f32) (harg11 : arg11.IsWhole) (arg12 : Memref sig .tc .vmem S4x512x768 .f32) (harg12 : arg12.IsWhole) (arg13 : Memref sig .tc .vmem S512x8 .f32) (harg13 : arg13.IsWhole) (arg14 : Memref sig .tc .vmem S512x1 .f32) (harg14 : arg14.IsWhole) (arg15 : Memref sig .tc .vmem S512x8 .f32) (harg15 : arg15.IsWhole) (arg16 : Memref sig .tc .vmem S7x512x4 .f32) (harg16 : arg16.IsWhole) (arg17 : Memref sig .tc .vmem S7x512x4 .f32) (harg17 : arg17.IsWhole) (hc0 : ¬cond0_0 i)
    (x0 : Vec F S4x512x768 .f32) (x1 : Vec F S4x768x168 .bf16) (x2 : Vec F S1x336 .f32) (x3 : Vec F S1x1x768 .f32) (x4 : Vec F S1x768x768 .bf16) (x5 : Vec F S1x768x768 .bf16) (x6 : Vec F S1x1242x768 .bf16) (x7 : Vec F S1x1242x768 .bf16) (x8 : Vec F S1x768x1242 .bf16) (x9 : Vec F S8x768 .f32) (xo10 : Vec F S4x512x768 .f32) (xs1 : Vec F S7x512x4 .f32) (xs2 : Vec F S7x512x4 .f32) :
    { L10 : List (View.Piece (Elt F) S4x512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo10 ∗ owns (c : Thread nD τ) arg16 fullShare xs1 ∗ owns (c : Thread nD τ) arg17 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg16 fullShare xs1 ∗ owns (c : Thread nD τ) arg17 fullShare xs2) -∗ K ⟨⟩))
          ⊢ wp frame (wpE (defs₀ (F := F)) Variants.none c none) E (cc0__moe_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0__moe_body_eq_skeleton]; unfold cc0__moe_body_skel
    simp only [k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hfs1; obtain rfl := harg17.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS1]
    · iexists _; isplitr; · ipureintro; exact harg16.read_unread _
      iexact HS1
    iexists _; isplitr; · ipureintro; exact harg17.read_unread _
    iexact HS2

end Cert.KernelIdeal.Hand

end
-- ==== Proof.Run.Frame.lean ====
/- What the kernel leaves point by point, the proof data of its pipeline and the body obligation. -/
module

public import proofs.«01_k».proof.Proof.Run.CaseB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The run of the body at a point of the first case, at that point's staging memrefs and input blocks. -/
def runA (c : Dev nD) (t : Fin cfg0.N) (h0 : t.val % 7 = 0) :=
  bodyRunA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- The run of the body at a point of the second case, over what output 10 and the scratch buffers held. -/
def runB (c : Dev nD) (t : Fin cfg0.N) (h0 : ¬t.val % 7 = 0) (xo10 : Vec F S4x512x768 .f32) (xs1 xs2 : Vec F S7x512x4 .f32) :=
  bodyRunB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) xo10 xs1 xs2

theorem coverA_10 (c : Dev nD) (t : Fin cfg0.N) (h0 : t.val % 7 = 0) (y : S4x512x768.Idx) :
    ∃ pc ∈ (runA m c t h0).1, y ∈ pc.1.set :=
  View.cover_of_tiledL (runA m c t h0).1 S1x512x768.size (by sl_kernel_rfl) y
theorem coverA_11 (c : Dev nD) (t : Fin cfg0.N) (h0 : t.val % 7 = 0) (y : S512x8.Idx) :
    ∃ pc ∈ (runA m c t h0).2.1, y ∈ pc.1.set :=
  View.cover_of_tiledL (runA m c t h0).2.1 S512x8.size (by sl_kernel_rfl) y
theorem coverA_12 (c : Dev nD) (t : Fin cfg0.N) (h0 : t.val % 7 = 0) (y : S512x1.Idx) :
    ∃ pc ∈ (runA m c t h0).2.2.1, y ∈ pc.1.set :=
  View.cover_of_tiledL (runA m c t h0).2.2.1 S512x1.size (by sl_kernel_rfl) y
theorem coverA_s1 (c : Dev nD) (t : Fin cfg0.N) (h0 : t.val % 7 = 0) (y : S7x512x4.Idx) :
    ∃ pc ∈ (runA m c t h0).2.2.2.1, y ∈ pc.1.set :=
  View.cover_of_tiledL (runA m c t h0).2.2.2.1 S1x512x4.size (by sl_kernel_rfl) y
theorem coverA_s2 (c : Dev nD) (t : Fin cfg0.N) (h0 : t.val % 7 = 0) (y : S7x512x4.Idx) :
    ∃ pc ∈ (runA m c t h0).2.2.2.2.1, y ∈ pc.1.set :=
  View.cover_of_tiledL (runA m c t h0).2.2.2.2.1 S1x512x4.size (by sl_kernel_rfl) y
theorem coverB_10 (c : Dev nD) (t : Fin cfg0.N) (h0 : ¬t.val % 7 = 0) (xo10 : Vec F S4x512x768 .f32) (xs1 xs2 : Vec F S7x512x4 .f32) (y : S4x512x768.Idx) :
    ∃ pc ∈ (runB m c t h0 xo10 xs1 xs2).1, y ∈ pc.1.set :=
  View.cover_of_tiledL (runB m c t h0 xo10 xs1 xs2).1 S1x512x768.size (by sl_kernel_rfl) y

/-- What the three outputs' buffers and the two carried scratch buffers hold after a point of the first case. -/
def leftA (c : Dev nD) (t : Fin cfg0.N) (h0 : t.val % 7 = 0) : Vec F S4x512x768 .f32 × Vec F S512x8 .f32 × Vec F S512x1 .f32 × Vec F S7x512x4 .f32 × Vec F S7x512x4 .f32 :=
  (VO0_10.read (Elt F) (VO0_10.writes (Elt F) VO0_10.junk (runA m c t h0).1),
   VO0_11.read (Elt F) (VO0_11.writes (Elt F) VO0_11.junk (runA m c t h0).2.1),
   VO0_12.read (Elt F) (VO0_12.writes (Elt F) VO0_12.junk (runA m c t h0).2.2.1),
   VS0_1.read (Elt F) (VS0_1.writes (Elt F) VS0_1.junk (runA m c t h0).2.2.2.1),
   VS0_2.read (Elt F) (VS0_2.writes (Elt F) VS0_2.junk (runA m c t h0).2.2.2.2.1))

/-- The same after a point of the second case, over what the point before left: only output 10 changes. -/
def leftB (c : Dev nD) (t : Fin cfg0.N) (h0 : ¬t.val % 7 = 0) (p : Vec F S4x512x768 .f32 × Vec F S512x8 .f32 × Vec F S512x1 .f32 × Vec F S7x512x4 .f32 × Vec F S7x512x4 .f32) : Vec F S4x512x768 .f32 × Vec F S512x8 .f32 × Vec F S512x1 .f32 × Vec F S7x512x4 .f32 × Vec F S7x512x4 .f32 :=
  (VO0_10.read (Elt F) (VO0_10.writes (Elt F) VO0_10.junk (runB m c t h0 p.1 p.2.2.2.1 p.2.2.2.2).1), p.2)

/-- What the outputs' buffers and the carried scratch hold after each point. -/
def outsAt0 (c : Dev nD) : (n : ℕ) → n < cfg0.N → Vec F S4x512x768 .f32 × Vec F S512x8 .f32 × Vec F S512x1 .f32 × Vec F S7x512x4 .f32 × Vec F S7x512x4 .f32
  | 0, hn => leftA m c ⟨0, hn⟩ rfl
  | n + 1, hn =>
    if h0 : (n + 1) % 7 = 0 then leftA m c ⟨n + 1, hn⟩ h0
    else leftB m c ⟨n + 1, hn⟩ h0 (outsAt0 c n (Nat.lt_of_succ_lt hn))

theorem outsAt0_A (c : Dev nD) (t : Fin cfg0.N) (h0 : t.val % 7 = 0) : outsAt0 m c t.val t.isLt = leftA m c t h0 := by
  obtain ⟨n, hn⟩ := t
  cases n with
  | zero => rfl
  | succ n => exact dif_pos h0

theorem outsAt0_B (c : Dev nD) (t : Fin cfg0.N) (h0 : ¬t.val % 7 = 0) :
    outsAt0 m c t.val t.isLt = leftB m c t h0 (outsAt0 m c (t.val - 1) (Nat.lt_of_le_of_lt (Nat.sub_le _ _) t.isLt)) := by
  obtain ⟨n, hn⟩ := t
  cases n with
  | zero => exact absurd (Nat.zero_mod _) h0
  | succ n => exact dif_neg h0

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.1) ∗ owns (c : Thread nD τ) scM0_2 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- Output 11's contents carry through the points that leave it idle. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  rw [after0_11, after0_11]
  by_cases h0 : t.val % 7 = 0
  · rw [liveAt0_11_A t ((hcond0_0 t).mpr h0)] at hi
    exact absurd hi Bool.false_ne_true
  · rw [outsAt0_B m c t h0]; rfl

/-- Output 12's contents carry through the points that leave it idle. -/
theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  rw [after0_12, after0_12]
  by_cases h0 : t.val % 7 = 0
  · rw [liveAt0_12_A t ((hcond0_0 t).mpr h0)] at hi
    exact absurd hi Bool.false_ne_true
  · rw [outsAt0_B m c t h0]; rfl

/-- After the first expert, output 10's buffer holds what the point before left. -/
theorem before0_10_B (c : Dev nD) (t : Fin cfg0.N) (h0 : ¬t.val % 7 = 0) (d) :
    (dats m 0 c).before 10 t d = (outsAt0 m c (t.val - 1) (Nat.lt_of_le_of_lt (Nat.sub_le _ _) t.isLt)).1 := by
  have hN : t.val < 28 := lt_of_lt_of_eq t.isLt (show cfg0.N = 28 from N_0)
  rw [Dat.before_out_kept _ 10 rfl t (by omega) (Bool.eq_false_iff.mpr fun h => by have := (flush0_10 _).mp h; dsimp only at this; omega)
    (fun _ => rfl) (fun _ _ => rfl)]
  dsimp only [dats]

/-- After the first expert, output 11's buffer holds what this point is said to leave there. -/
theorem before0_11_B (c : Dev nD) (t : Fin cfg0.N) (h0 : ¬t.val % 7 = 0) (d) :
    (dats m 0 c).before 11 t d = (outsAt0 m c t.val t.isLt).2.1 := by
  rw [Dat.before_out_traj _ 11 rfl (fun _ _ => rfl) (hcarry0_11 m c) t.val t rfl d,
    if_neg (by rw [notFresh0_11_B t (fun h => h0 ((hcond0_0 t).mp h))]; exact Bool.false_ne_true), outsAt0_B m c t h0]
  dsimp only [dats]
  rfl

/-- What the body is to leave in output 11's buffer after the first expert: its contents untouched. -/
theorem leaves0_11_B (c : Dev nD) (t : Fin cfg0.N) (h0 : ¬t.val % 7 = 0) :
    owns (c : Thread nD τ) (ms0_11 t) fullShare (outsAt0 m c t.val t.isLt).2.1 ⊢ (dats m 0 c).leavesExact 11 t := by
  unfold Dat.leavesExact
  rw [idleAt0_11_B t (fun h => h0 ((hcond0_0 t).mp h))]
  cases hfl : (cfg0.win 11).flush t with
  | false =>
    dsimp only
    iintro H
    iexists (outsAt0 m c t.val t.isLt).2.1
    rw [before0_11_B m c t h0]
    iexact H
  | true =>
    dsimp only
    rw [after0_11]

/-- After the first expert, output 12's buffer holds what this point is said to leave there. -/
theorem before0_12_B (c : Dev nD) (t : Fin cfg0.N) (h0 : ¬t.val % 7 = 0) (d) :
    (dats m 0 c).before 12 t d = (outsAt0 m c t.val t.isLt).2.2.1 := by
  rw [Dat.before_out_traj _ 12 rfl (fun _ _ => rfl) (hcarry0_12 m c) t.val t rfl d,
    if_neg (by rw [notFresh0_12_B t (fun h => h0 ((hcond0_0 t).mp h))]; exact Bool.false_ne_true), outsAt0_B m c t h0]
  dsimp only [dats]
  rfl

/-- What the body is to leave in output 12's buffer after the first expert: its contents untouched. -/
theorem leaves0_12_B (c : Dev nD) (t : Fin cfg0.N) (h0 : ¬t.val % 7 = 0) :
    owns (c : Thread nD τ) (ms0_12 t) fullShare (outsAt0 m c t.val t.isLt).2.2.1 ⊢ (dats m 0 c).leavesExact 12 t := by
  unfold Dat.leavesExact
  rw [idleAt0_12_B t (fun h => h0 ((hcond0_0 t).mp h))]
  cases hfl : (cfg0.win 12).flush t with
  | false =>
    dsimp only
    iintro H
    iexists (outsAt0 m c t.val t.isLt).2.2.1
    rw [before0_12_B m c t h0]
    iexact H
  | true =>
    dsimp only
    rw [after0_12]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 12800000 in
/-- The body at any point meets its obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  by_cases h0 : t.val % 7 = 0
  · rw [show (dats m 0 c).leavesExact 11 t = owns (c : Thread nD τ) (ms0_11 t) fullShare ((dats m 0 c).after 11 t) from by
      unfold Dat.leavesExact; rw [liveAt0_11_A t ((hcond0_0 t).mpr h0)], after0_11]
    rw [show (dats m 0 c).leavesExact 12 t = owns (c : Thread nD τ) (ms0_12 t) fullShare ((dats m 0 c).after 12 t) from by
      unfold Dat.leavesExact; rw [liveAt0_12_A t ((hcond0_0 t).mpr h0)], after0_12]
    by_cases hz : t.val = 0
    · rw [PhiS_castSucc m c t, PhiS_zero m c _ _ hz, PhiA0_eq]
      rw [outsAt0_A m c t h0]
      unfold leftA; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA m c t h0).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      iintro ⟨H0, H1, H2, H3, H4, H5, H6, H7, H8, H9, ⟨%e10, H10⟩, ⟨%e11, H11⟩, ⟨%e12, H12⟩, HS0, ⟨%es1, HS1⟩, ⟨%es2, HS2⟩⟩
      isplitl [HS0 HS1 HS2 Hg]
      · isplitl [HS0 HS1 HS2]
        · isplitl [HS0]
          · iexact HS0
          isplitl [HS1]
          · unfold owns; iexists _; isplitr
            swap; · iexact HS1
            ipureintro; exact View.read_writes_of_cover _ _ _ _ _ (coverA_s1 m c t h0)
          unfold owns; iexists _; isplitr
          swap; · iexact HS2
          ipureintro; exact View.read_writes_of_cover _ _ _ _ _ (coverA_s2 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (coverA_10 m c t h0)
      isplitl [H11]
      · unfold owns; iexists _; isplitr
        swap; · iexact H11
        ipureintro; exact View.read_writes_of_cover _ _ _ _ _ (coverA_11 m c t h0)
      unfold owns; iexists _; isplitr
      swap; · iexact H12
      ipureintro; exact View.read_writes_of_cover _ _ _ _ _ (coverA_12 m c t h0)
    · rw [PhiS_castSucc m c t, PhiS_pos m c _ _ hz]
      rw [outsAt0_A m c t h0]
      unfold leftA; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA m c t h0).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      isplitl [HS1]; · iexists _; iexact HS1
      isplitl [HS2]; · iexists _; iexact HS2
      iintro ⟨H0, H1, H2, H3, H4, H5, H6, H7, H8, H9, ⟨%e10, H10⟩, ⟨%e11, H11⟩, ⟨%e12, H12⟩, HS0, ⟨%es1, HS1⟩, ⟨%es2, HS2⟩⟩
      isplitl [HS0 HS1 HS2 Hg]
      · isplitl [HS0 HS1 HS2]
        · isplitl [HS0]
          · iexact HS0
          isplitl [HS1]
          · unfold owns; iexists _; isplitr
            swap; · iexact HS1
            ipureintro; exact View.read_writes_of_cover _ _ _ _ _ (coverA_s1 m c t h0)
          unfold owns; iexists _; isplitr
          swap; · iexact HS2
          ipureintro; exact View.read_writes_of_cover _ _ _ _ _ (coverA_s2 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (coverA_10 m c t h0)
      isplitl [H11]
      · unfold owns; iexists _; isplitr
        swap; · iexact H11
        ipureintro; exact View.read_writes_of_cover _ _ _ _ _ (coverA_11 m c t h0)
      unfold owns; iexists _; isplitr
      swap; · iexact H12
      ipureintro; exact View.read_writes_of_cover _ _ _ _ _ (coverA_12 m c t h0)
  · have hz : t.val ≠ 0 := fun h => h0 (by rw [h])
    rw [PhiS_castSucc m c t, PhiS_pos m c _ _ hz]
    simp only [before0_10_B m c t h0, before0_11_B m c t h0, before0_12_B m c t h0]
    have e1 : (outsAt0 m c t.val t.isLt).2 = (outsAt0 m c (t.val - 1) (Nat.lt_of_le_of_lt (Nat.sub_le _ _) t.isLt)).2 := by
      rw [outsAt0_B m c t h0]; rfl
    have e0 : (outsAt0 m c t.val t.isLt).1 = VO0_10.read (Elt F) (VO0_10.writes (Elt F) VO0_10.junk (runB m c t h0 (outsAt0 m c (t.val - 1) (Nat.lt_of_le_of_lt (Nat.sub_le _ _) t.isLt)).1 (outsAt0 m c (t.val - 1) (Nat.lt_of_le_of_lt (Nat.sub_le _ _) t.isLt)).2.2.2.1 (outsAt0 m c (t.val - 1) (Nat.lt_of_le_of_lt (Nat.sub_le _ _) t.isLt)).2.2.2.2).1) := by
      rw [outsAt0_B m c t h0]; rfl
    rw [e0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB m c t h0 _ _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS1]; · iexact HS1
    isplitl [HS2]; · iexact HS2
    iintro ⟨H0, H1, H2, H3, H4, H5, H6, H7, H8, H9, ⟨%e10, H10⟩, HS1, HS2⟩
    isplitl [HS0 HS1 HS2 Hg]
    · isplitl [HS0 HS1 HS2]
      · isplitl [HS0]
        · iexact HS0
        rw [e1]
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (coverB_10 m c t h0 _ _ _)
    isplitl [H11]
    · iapply (leaves0_11_B m c t h0); iexact H11
    iapply (leaves0_12_B m c t h0); iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 28 := N_0; omega)

end Cert.KernelIdeal.Hand

end
-- ==== Proof.Run.Launch.lean ====
/- The run of the kernel and its frame. -/
module

public import proofs.«01_k».proof.Proof.Run.Frame
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.KernelIdeal.Hand

end
-- ==== Proof.Spec.lean ====
/- What one token's results are: the problem's mathematics over the extended reals, token by token. -/
module

public import Idealize.ShloMosaic.PureOps.Ideal

@[expose] public section

noncomputable section

namespace Cert.Spec

open Idealize.ShloMosaic

/-- A token's four streams. -/
abbrev Tok := Fin 4 → Fin 768 → EReal

/-- The parameters as the mathematics uses them: expert `k : Fin 7` is the problem's expert `k + 1`, and a projection's
    weight is the product of the projection matrix and the norm's weight. -/
structure Par where
  rw : Fin 8 → Fin 768 → EReal
  wpre : Fin 7 → Fin 4 → Fin 4 → Fin 768 → EReal
  wpost : Fin 7 → Fin 4 → Fin 4 → Fin 768 → EReal
  wres : Fin 7 → Fin 4 → Fin 4 → Fin 4 → Fin 768 → EReal
  apre : Fin 7 → EReal
  apost : Fin 7 → EReal
  ares : Fin 7 → EReal
  bpre : Fin 7 → Fin 4 → EReal
  bpost : Fin 7 → Fin 4 → EReal
  bres : Fin 7 → Fin 4 → Fin 4 → EReal
  nw : Fin 7 → Fin 768 → EReal
  wd : Fin 7 → Fin 768 → Fin 768 → EReal
  wu : Fin 7 → Fin 768 → Fin 768 → EReal
  wg : Fin 7 → Fin 1242 → Fin 768 → EReal
  wup : Fin 7 → Fin 1242 → Fin 768 → EReal
  wdn : Fin 7 → Fin 768 → Fin 1242 → EReal

/-- The small number under both square roots. -/
def eps : EReal := Ideal.ofBits .f32 0x322BCC77#32
/-- The probability mass at which the choice of experts stops. -/
def thr : EReal := Ideal.ofBits .f32 0x3F4CCCCD#32
/-- The floor of the log probability. -/
def floor10 : EReal := Ideal.ofBits .f32 0xC1200000#32
/-- One where `P` holds, zero where it does not. -/
def ind (P : Prop) [Decidable P] : EReal := if P then 1 else 0

/-- The logistic function. -/
def sig (x : EReal) : EReal := Ideal.div 1 (1 + Ideal.exp (-x))
/-- `x` times its logistic. -/
def silu (x : EReal) : EReal := x * sig x

/-! ### The router -/

/-- A router logit: the mean of the streams against the router's row. -/
def logit (s : Tok) (w : Fin 8 → Fin 768 → EReal) (e : Fin 8) : EReal :=
  ∑ d, (∑ n, s n d) * ((1 / 4 : ℝ) : EReal) * w e d
/-- The largest logit. -/
def top (l : Fin 8 → EReal) : EReal := Finset.univ.fold max ⊥ l
/-- The softmax. -/
def prob (l : Fin 8 → EReal) (e : Fin 8) : EReal :=
  Ideal.div (Ideal.exp (l e - top l)) (∑ j, Ideal.exp (l j - top l))
/-- Expert `i` comes before expert `e` in the order of falling probability, ties by number. -/
def before (p : Fin 8 → EReal) (i e : Fin 8) : Prop := p e < p i ∨ (p i = p e ∧ i < e)
instance (p : Fin 8 → EReal) (i e : Fin 8) : Decidable (before p i e) := by unfold before; infer_instance
/-- How many experts come before `e`. -/
def rank (p : Fin 8 → EReal) (e : Fin 8) : EReal := ∑ i, ind (before p i e)
/-- The probability mass of those before `e`. -/
def mass (p : Fin 8 → EReal) (e : Fin 8) : EReal := ∑ i, p i * ind (before p i e)
/-- Whether `e` is chosen. -/
def chosen (p : Fin 8 → EReal) (e : Fin 8) : Prop := (mass p e < thr ∧ rank p e < 4) ∨ rank p e = 0
instance (p : Fin 8 → EReal) (e : Fin 8) : Decidable (chosen p e) := by unfold chosen; infer_instance
/-- The gate of `e`. -/
def gate (p : Fin 8 → EReal) (e : Fin 8) : EReal := p e * ind (chosen p e)
/-- The log probability of the chosen experts. -/
def lp (p g : Fin 8 → EReal) : EReal := ∑ e, max (Ideal.log (p e)) floor10 * ind (0 < g e)

/-- The token's probabilities and gates. -/
def probs (P : Par) (s : Tok) : Fin 8 → EReal := prob (logit s P.rw)
def gates (P : Par) (s : Tok) : Fin 8 → EReal := gate (probs P s)

/-! ### The stream mixing -/

/-- The norm's factor over all four streams. -/
def rms (s : Tok) : EReal := Ideal.rsqrt ((∑ n, ∑ d, s n d * s n d) * ((1 / 3072 : ℝ) : EReal) + eps)
/-- A projection of the normed streams. -/
def proj (s : Tok) (w : Fin 4 → Fin 768 → EReal) : EReal := ∑ n, ∑ d, s n d * rms s * w n d
def pre (P : Par) (s : Tok) (k : Fin 7) (n : Fin 4) : EReal := sig (P.apre k * proj s (P.wpre k n) + P.bpre k n)
def post (P : Par) (s : Tok) (k : Fin 7) (n : Fin 4) : EReal := 2 * sig (P.apost k * proj s (P.wpost k n) + P.bpost k n)
def res (P : Par) (s : Tok) (k : Fin 7) (i j : Fin 4) : EReal := Ideal.exp (P.ares k * proj s (P.wres k i j) + P.bres k i j)
/-- Dividing by the sums of the rows, and of the columns. -/
def rowN (M : Fin 4 → Fin 4 → EReal) (i j : Fin 4) : EReal := Ideal.div (M i j) (∑ j', M i j')
def colN (M : Fin 4 → Fin 4 → EReal) (i j : Fin 4) : EReal := Ideal.div (M i j) (∑ i', M i' j)
def step (M : Fin 4 → Fin 4 → EReal) : Fin 4 → Fin 4 → EReal := colN (rowN M)
/-- Six such steps. -/
def sink (M : Fin 4 → Fin 4 → EReal) : Fin 4 → Fin 4 → EReal := step (step (step (step (step (step M)))))
def mix (P : Par) (s : Tok) (k : Fin 7) : Fin 4 → Fin 4 → EReal := sink (res P s k)

/-! ### The expert -/

/-- The expert's input. -/
def he (P : Par) (s : Tok) (k : Fin 7) (d : Fin 768) : EReal := ∑ n, pre P s k n * s n d
def rms2 (h : Fin 768 → EReal) : EReal := Ideal.rsqrt ((∑ d, h d * h d) * ((1 / 768 : ℝ) : EReal) + eps)
def normed (h w : Fin 768 → EReal) (d : Fin 768) : EReal := h d * rms2 h * w d
/-- A matrix times a vector. -/
def mv {a b : ℕ} (W : Fin a → Fin b → EReal) (x : Fin b → EReal) (o : Fin a) : EReal := ∑ i, x i * W o i
/-- The expert's output from its normed input. -/
def glu (wd wu : Fin 768 → Fin 768 → EReal) (wg wup : Fin 1242 → Fin 768 → EReal) (wdn : Fin 768 → Fin 1242 → EReal)
    (x : Fin 768 → EReal) (d : Fin 768) : EReal :=
  sig (mv wu (fun i => silu (mv wd x i)) d) * mv wdn (fun f => silu (mv wg x f) * mv wup x f) d
def oute (P : Par) (s : Tok) (k : Fin 7) (d : Fin 768) : EReal :=
  glu (P.wd k) (P.wu k) (P.wg k) (P.wup k) (P.wdn k) (normed (he P s k) (P.nw k)) d

/-! ### The result -/

/-- The update as the problem states it: each expert's mixed streams and output, gated, summed. -/
def upd (P : Par) (s : Tok) (n : Fin 4) (d : Fin 768) : EReal :=
  ∑ k : Fin 7, gates P s k.succ * ((∑ j, mix P s k n j * s j d) + post P s k n * oute P s k d)
/-- The gated mixing matrix, summed over the experts. -/
def amix (P : Par) (s : Tok) (n j : Fin 4) : EReal := ∑ k : Fin 7, mix P s k n j * gates P s k.succ
/-- The update as it is accumulated: first the mixed streams, then each expert's output. -/
def acc (P : Par) (s : Tok) (n : Fin 4) (d : Fin 768) : EReal :=
  (∑ j, amix P s n j * s j d) + ∑ k : Fin 7, gates P s k.succ * post P s k n * oute P s k d

end Cert.Spec
-- ==== Proof.Args.lean ====
/- The parameters and a token's streams, read off the argument arrays. -/
module

public import proofs.«01_k».proof.Proof.Spec
public import Idealize.ShloMosaic.Lib.Pointwise

@[expose] public section

noncomputable section

namespace Cert.Spec

open Idealize.ShloMosaic

/-- The position of entry `d` of stream `n` in the four streams side by side. -/
def fl (n : Fin 4) (d : Fin 768) : Fin 3072 := ⟨n.val * 768 + d.val, by omega⟩
/-- The position of entry `(i, j)` in a matrix laid out by rows. -/
def fl4 (i j : Fin 4) : Fin 16 := ⟨i.val * 4 + j.val, by omega⟩

/-- An array of the given extents over the extended reals. -/
abbrev Arr {r : ℕ} (d : Fin r → ℕ) := (⟨r, d⟩ : Shape).Idx → EReal

/-- The streams of token `t`. -/
def tok (x0 : Arr ![1, 4, 2048, 768]) (t : Fin 2048) : Tok := fun n d => x0 (ix4 0 n t d)

/-- The parameters read off the arrays. -/
def par (x1 : Arr ![8, 3072]) (x2 x3 : Arr ![8, 4, 3072]) (x4 : Arr ![8, 16, 3072]) (x5 x6 : Arr ![8, 4]) (x7 : Arr ![8, 4, 4])
    (x8 x9 x10 : Arr ![8]) (x11 : Arr ![8, 768]) (x12 x13 : Arr ![8, 768, 768]) (x14 x15 : Arr ![8, 1242, 768])
    (x16 : Arr ![8, 768, 1242]) (x17 : Arr ![8, 768]) : Par where
  rw e d := x17 (ix2 e d)
  wpre k n n' d := x2 (ix3 k.succ n (fl n' d)) * x1 (ix2 k.succ (fl n' d))
  wpost k n n' d := x3 (ix3 k.succ n (fl n' d)) * x1 (ix2 k.succ (fl n' d))
  wres k i j n' d := x4 (ix3 k.succ (fl4 i j) (fl n' d)) * x1 (ix2 k.succ (fl n' d))
  apre k := x8 (ix1 k.succ)
  apost k := x9 (ix1 k.succ)
  ares k := x10 (ix1 k.succ)
  bpre k n := x5 (ix2 k.succ n)
  bpost k n := x6 (ix2 k.succ n)
  bres k i j := x7 (ix3 k.succ i j)
  nw k d := x11 (ix2 k.succ d)
  wd k a b := x12 (ix3 k.succ a b)
  wu k a b := x13 (ix3 k.succ a b)
  wg k f d := x14 (ix3 k.succ f d)
  wup k f d := x15 (ix3 k.succ f d)
  wdn k d f := x16 (ix3 k.succ d f)

end Cert.Spec
-- ==== Proof.Consts.lean ====
/- The numbers the programs' constants stand for, and sums over joined positions. -/
module

public import proofs.«01_k».proof.Proof.Args
public import Idealize.ShloMosaic.Lib.IdealHost

@[expose] public section

noncomputable section

namespace Cert.Spec

open Idealize.ShloMosaic

theorem ofBits_4r : Ideal.ofBits .f32 0x40800000#32 = ((4 : ℝ) : EReal) := by
  simp [Ideal.ofBits, Ideal.ieee, -EReal.coe_mul]; norm_num
theorem ofBits_4 : Ideal.ofBits .f32 0x40800000#32 = 4 := ofBits_4r
theorem ofBits_2 : Ideal.ofBits .f32 0x40000000#32 = 2 := by
  rw [show (2 : EReal) = ((2 : ℝ) : EReal) from rfl]
  simp [Ideal.ofBits, Ideal.ieee, -EReal.coe_mul]; norm_num
theorem ofBits_quarter : Ideal.ofBits .f32 0x3E800000#32 = ((1 / 4 : ℝ) : EReal) := by
  simp [Ideal.ofBits, Ideal.ieee, -EReal.coe_mul]; norm_num
theorem ofBits_768 : Ideal.ofBits .f32 0x44400000#32 = ((768 : ℝ) : EReal) := by
  simp [Ideal.ofBits, Ideal.ieee, -EReal.coe_mul]; norm_num
theorem ofBits_3072 : Ideal.ofBits .f32 0x45400000#32 = ((3072 : ℝ) : EReal) := by
  simp [Ideal.ofBits, Ideal.ieee, -EReal.coe_mul]; norm_num
theorem ofBits_ninf : Ideal.ofBits .f32 0xFF800000#32 = ⊥ := by
  simp [Ideal.ofBits, Ideal.ieee]
theorem ofBits_inf : Ideal.ofBits .f32 0x7F800000#32 = ⊤ := by
  simp [Ideal.ofBits, Ideal.ieee]
theorem thr_real : ∃ r : ℝ, thr = (r : EReal) :=
  ⟨_, by unfold thr; simp [Ideal.ofBits, Ideal.ieee, -EReal.coe_mul]; rfl⟩

theorem div4 (x : EReal) : Ideal.div x (Ideal.ofBits .f32 0x40800000#32) = x * ((1 / 4 : ℝ) : EReal) := by
  rw [ofBits_4r, Ideal.div_coe (by norm_num)]
theorem div768 (x : EReal) : Ideal.div x (Ideal.ofBits .f32 0x44400000#32) = x * ((1 / 768 : ℝ) : EReal) := by
  rw [ofBits_768, Ideal.div_coe (by norm_num)]
theorem div3072 (x : EReal) : Ideal.div x (Ideal.ofBits .f32 0x45400000#32) = x * ((1 / 3072 : ℝ) : EReal) := by
  rw [ofBits_3072, Ideal.div_coe (by norm_num)]

/-- A truth value read as a number. -/
theorem uitofp_ind (P : Prop) [Decidable P] : (FloatOps.uitofp .f32 (BitVec.ofBool (decide P)) : Ideal .f32) = ind P := by
  show ((((BitVec.ofBool (decide P)).toNat : ℝ)) : EReal) = ind P
  by_cases h : P <;> simp [h, ind]
/-- The same by way of a 32 bit integer. -/
theorem sitofp_ind (P : Prop) [Decidable P] :
    (FloatOps.sitofp .f32 (BitVec.setWidth 32 (BitVec.ofBool (decide P))) : Ideal .f32) = ind P := by
  show ((((BitVec.setWidth 32 (BitVec.ofBool (decide P))).toInt : ℝ)) : EReal) = ind P
  by_cases h : P
  · simp only [h, decide_true, ind, if_true]
    rw [show (BitVec.setWidth 32 (BitVec.ofBool true)).toInt = 1 from by decide]; simp
  · simp only [h, decide_false, ind, if_false]
    rw [show (BitVec.setWidth 32 (BitVec.ofBool false)).toInt = 0 from by decide]; simp
theorem and_ofBool (a b : Bool) : BitVec.ofBool a &&& BitVec.ofBool b = BitVec.ofBool (a && b) := by cases a <;> cases b <;> rfl
theorem or_ofBool (a b : Bool) : BitVec.ofBool a ||| BitVec.ofBool b = BitVec.ofBool (a || b) := by cases a <;> cases b <;> rfl

/-- A sum over the four streams side by side, stream by stream. -/
theorem sum_fl (f : Fin 3072 → EReal) : ∑ q, f q = ∑ n, ∑ d, f (fl n d) := by
  rw [← Fintype.sum_prod_type' (f := fun n d => f (fl n d))]
  refine (Equiv.sum_comp (finProdFinEquiv (m := 4) (n := 768)) f).symm.trans ?_
  refine Finset.sum_congr rfl fun p _ => congrArg f (Fin.ext ?_)
  show p.2.val + 768 * p.1.val = p.1.val * 768 + p.2.val
  omega

/-- The column of expert `k` and stream `n`. -/
def c28 (k : Fin 7) (n : Fin 4) : Fin 28 := ⟨k.val * 4 + n.val, by omega⟩
/-- The column of expert `k` and matrix entry `(i, j)`. -/
def c112 (k : Fin 7) (i j : Fin 4) : Fin 112 := ⟨k.val * 16 + i.val * 4 + j.val, by omega⟩

/-- A sum over the 112 columns, expert by expert, row by row. -/
theorem sum_c112 (f : Fin 112 → EReal) : ∑ q, f q = ∑ k, ∑ i, ∑ j, f (c112 k i j) := by
  have h1 : ∑ q, f q = ∑ k : Fin 7, ∑ y : Fin 16, f (finProdFinEquiv (m := 7) (n := 16) (k, y)) := by
    rw [← Fintype.sum_prod_type']
    exact (Equiv.sum_comp (finProdFinEquiv (m := 7) (n := 16)) f).symm
  rw [h1]
  refine Finset.sum_congr rfl fun k _ => ?_
  rw [← Equiv.sum_comp (finProdFinEquiv (m := 4) (n := 4)) fun y => f (finProdFinEquiv (m := 7) (n := 16) (k, y)),
    Fintype.sum_prod_type]
  refine Finset.sum_congr rfl fun i _ => Finset.sum_congr rfl fun j _ => congrArg f (Fin.ext ?_)
  show (j.val + 4 * i.val) + 16 * k.val = k.val * 16 + i.val * 4 + j.val
  omega

theorem mul_ind (x : EReal) (P : Prop) [Decidable P] : x * ind P = if P then x else 0 := by
  unfold ind; split <;> simp

/-- A sum against the matrix of the rows. -/
theorem sum_row (f : Fin 112 → EReal) (k : Fin 7) (i j : Fin 4) :
    ∑ q : Fin 112, f q * ind (q.val / 4 = (c112 k i j).val / 4) = ∑ j', f (c112 k i j') := by
  rw [sum_c112]
  have h : ∀ (k' : Fin 7) (i' j' : Fin 4), ((c112 k' i' j').val / 4 = (c112 k i j).val / 4) ↔ (k' = k ∧ i' = i) := by
    intro k' i' j'; simp only [c112, Fin.ext_iff]; omega
  simp only [mul_ind, h]
  rw [Finset.sum_eq_single k, Finset.sum_eq_single i]
  · simp
  · intro b _ hb; simp [hb]
  · simp
  · intro b _ hb; simp [hb]
  · simp
/-- A sum against the matrix of the columns. -/
theorem sum_col (f : Fin 112 → EReal) (k : Fin 7) (i j : Fin 4) :
    ∑ q : Fin 112, f q * ind (q.val / 16 = (c112 k i j).val / 16 ∧ q.val % 4 = (c112 k i j).val % 4) = ∑ i', f (c112 k i' j) := by
  rw [sum_c112]
  have h : ∀ (k' : Fin 7) (i' j' : Fin 4), ((c112 k' i' j').val / 16 = (c112 k i j).val / 16 ∧ (c112 k' i' j').val % 4 = (c112 k i j).val % 4) ↔ (k' = k ∧ j' = j) := by
    intro k' i' j'; simp only [c112, Fin.ext_iff]; omega
  simp only [mul_ind, h]
  rw [Finset.sum_eq_single k]
  · simp
  · intro b _ hb; simp [hb]
  · simp
/-- A sum against the matrix that joins the experts. -/
theorem sum_exp (f : Fin 112 → EReal) (i j : Fin 4) :
    ∑ q : Fin 112, f q * ind (q.val % 16 = (fl4 i j).val) = ∑ k, f (c112 k i j) := by
  rw [sum_c112]
  have h : ∀ (k' : Fin 7) (i' j' : Fin 4), ((c112 k' i' j').val % 16 = (fl4 i j).val) ↔ (i' = i ∧ j' = j) := by
    intro k' i' j'; simp only [c112, fl4, Fin.ext_iff]; omega
  simp only [mul_ind, h]
  refine Finset.sum_congr rfl fun k _ => ?_
  rw [Finset.sum_eq_single i]
  · simp
  · intro b _ hb; simp [hb]
  · simp
/-- The gate of the expert a column belongs to. -/
theorem sum_pick (g : Fin 8 → EReal) (k : Fin 7) (m : ℕ) (h : m = k.val) : ∑ e : Fin 8, g e * ind (e.val = m + 1) = g k.succ := by
  subst h
  have h : ∀ e : Fin 8, (e.val = k.val + 1) ↔ e = k.succ := by intro e; simp [Fin.ext_iff]
  simp only [mul_ind, h]
  simp

end Cert.Spec
-- ==== Proof.IntFacts.lean ====
/- Small integers in 32 bit words: quotients, remainders, comparisons. -/
module

public import proofs.«01_k».proof.Proof.Consts

@[expose] public section

set_option maxRecDepth 16384

noncomputable section

namespace Cert.Spec

open Idealize.ShloMosaic

theorem divsi_pos (x d : BitVec 32) (h0 : d ≠ 0) (h1 : d ≠ -1) : IntOp.divsi ArithUnit.vector x d = x.sdiv d := by
  unfold IntOp.divsi
  rw [if_neg]
  rintro (h | ⟨_, h⟩)
  · exact h0 h
  · exact h1 h
theorem remsi_pos (x d : BitVec 32) (h0 : d ≠ 0) (h1 : d ≠ -1) : IntOp.remsi ArithUnit.vector x d = x.srem d := by
  unfold IntOp.remsi
  rw [if_neg]
  rintro (h | ⟨_, h⟩)
  · exact h0 h
  · exact h1 h

/-- The quotient rounded down, as the kernel computes it. -/
def fdiv (x d : BitVec 32) : BitVec 32 :=
  Scalar.select (IntOp.andi (IntOp.cmpi CmpIPredicate.ne (IntOp.subi (BitVec.setWidth 32 (IntOp.cmpi CmpIPredicate.sgt x 0#32))
      (BitVec.setWidth 32 (IntOp.cmpi CmpIPredicate.slt x 0#32))) 1#32) (IntOp.cmpi CmpIPredicate.ne (x.srem d) 0#32))
    (IntOp.subi (x.sdiv d) 1#32) (x.sdiv d)
/-- The remainder of that division, as the kernel computes it. -/
def fmod (x d : BitVec 32) : BitVec 32 :=
  Scalar.select (IntOp.andi (IntOp.xori (IntOp.cmpi CmpIPredicate.slt (x.srem d) 0#32) 0#1) (IntOp.cmpi CmpIPredicate.ne (x.srem d) 0#32))
    (IntOp.addi (x.srem d) d) (x.srem d)

theorem fdiv4 : ∀ a : Fin 112, fdiv (BitVec.ofNat 32 a.val) 4#32 = BitVec.ofNat 32 (a.val / 4) := by decide
theorem fdiv16 : ∀ a : Fin 112, fdiv (BitVec.ofNat 32 a.val) 16#32 = BitVec.ofNat 32 (a.val / 16) := by decide
theorem fmod4 : ∀ a : Fin 112, fmod (BitVec.ofNat 32 a.val) 4#32 = BitVec.ofNat 32 (a.val % 4) := by decide
theorem fmod16 : ∀ a : Fin 112, fmod (BitVec.ofNat 32 a.val) 16#32 = BitVec.ofNat 32 (a.val % 16) := by decide
theorem fdiv4s : ∀ a : Fin 28, fdiv (BitVec.ofNat 32 a.val) 4#32 = BitVec.ofNat 32 (a.val / 4) := by decide

theorem cmpi_eq_ofNat (a b : ℕ) (ha : a < 2 ^ 32) (hb : b < 2 ^ 32) :
    IntOp.cmpi CmpIPredicate.eq (BitVec.ofNat 32 a) (BitVec.ofNat 32 b) = BitVec.ofBool (decide (a = b)) := by
  show BitVec.ofBool (BitVec.ofNat 32 a == BitVec.ofNat 32 b) = _
  congr 1
  by_cases h : a = b
  · simp [h]
  · simp only [h, decide_false, beq_eq_false_iff_ne, ne_eq]
    intro he
    have := congrArg BitVec.toNat he
    simp only [BitVec.toNat_ofNat, Nat.mod_eq_of_lt ha, Nat.mod_eq_of_lt hb] at this
    exact h this

/-- The comparison of a position with a number, in words. -/
theorem sgt_pos (k : Fin 8) : ∀ e : Fin 8, IntOp.cmpi CmpIPredicate.sgt (BitVec.ofNat 32 e.val) (BitVec.ofNat 32 k.val) = BitVec.ofBool (decide (k < e)) := by
  revert k; decide

/-- "Comes before", as the kernel computes it. -/
theorem before_word (p : Fin 8 → EReal) (k e : Fin 8) :
    (FloatOps.sitofp .f32 (BitVec.setWidth 32 (IntOp.ori (BitVec.ofBool (decide (p e < p k)))
      (IntOp.andi (BitVec.ofBool (decide (p k = p e))) (IntOp.cmpi CmpIPredicate.sgt (BitVec.ofNat 32 e.val) (BitVec.ofNat 32 k.val))))) : Ideal .f32)
      = ind (before p k e) := by
  rw [sgt_pos]
  unfold IntOp.ori IntOp.andi
  rw [and_ofBool, or_ofBool, ← Bool.decide_and, ← Bool.decide_or, sitofp_ind]
  rfl

/-- "Is chosen", as the kernel computes it. -/
theorem chosen_word (a b c : EReal) (x y z : EReal) :
    (FloatOps.sitofp .f32 (BitVec.setWidth 32 (IntOp.ori (IntOp.andi (BitVec.ofBool (decide (a < x))) (BitVec.ofBool (decide (b < y))))
      (BitVec.ofBool (decide (c = z))))) : Ideal .f32) = ind ((a < x ∧ b < y) ∨ c = z) := by
  unfold IntOp.ori IntOp.andi
  rw [and_ofBool, or_ofBool, ← Bool.decide_and, ← Bool.decide_or, sitofp_ind]

theorem and_word (P Q : Prop) [Decidable P] [Decidable Q] :
    IntOp.andi (BitVec.ofBool (decide P)) (BitVec.ofBool (decide Q)) = BitVec.ofBool (decide (P ∧ Q)) := by
  unfold IntOp.andi
  rw [and_ofBool, ← Bool.decide_and]

end Cert.Spec
-- ==== Proof.KerA.lean ====
/- The kernel body's values at the first expert of a token tile, row by row. -/
module

public import proofs.«01_k».proof.Proof.IntFacts
public import proofs.«01_k».proof.Proof.Run.CaseA
public import Idealize.ShloMosaic.Lib.WholeRead

@[expose] public section

noncomputable section

namespace Cert.KernelIdeal.Hand

open Cert.KernelIdeal.Gen Cert.Spec
open Idealize.ShloMosaic Idealize.ShloMosaic.TcCoe

variable (c : Dev nD) (i : grid0.Coords) (arg2 : Memref sig .tc .vmem S4x512x768 .f32) (harg2 : arg2.IsWhole) (arg3 : Memref sig .tc .vmem S4x768x168 .bf16) (harg3 : arg3.IsWhole) (arg4 : Memref sig .tc .vmem S1x336 .f32) (harg4 : arg4.IsWhole) (arg5 : Memref sig .tc .vmem S1x1x768 .f32) (harg5 : arg5.IsWhole) (arg6 : Memref sig .tc .vmem S1x768x768 .bf16) (harg6 : arg6.IsWhole) (arg7 : Memref sig .tc .vmem S1x768x768 .bf16) (harg7 : arg7.IsWhole) (arg8 : Memref sig .tc .vmem S1x1242x768 .bf16) (harg8 : arg8.IsWhole) (arg9 : Memref sig .tc .vmem S1x1242x768 .bf16) (harg9 : arg9.IsWhole) (arg10 : Memref sig .tc .vmem S1x768x1242 .bf16) (harg10 : arg10.IsWhole) (arg11 : Memref sig .tc .vmem S8x768 .f32) (harg11 : arg11.IsWhole) (arg12 : Memref sig .tc .vmem S4x512x768 .f32) (harg12 : arg12.IsWhole) (arg13 : Memref sig .tc .vmem S512x8 .f32) (harg13 : arg13.IsWhole) (arg14 : Memref sig .tc .vmem S512x1 .f32) (harg14 : arg14.IsWhole) (arg15 : Memref sig .tc .vmem S512x8 .f32) (harg15 : arg15.IsWhole) (arg16 : Memref sig .tc .vmem S7x512x4 .f32) (harg16 : arg16.IsWhole) (arg17 : Memref sig .tc .vmem S7x512x4 .f32) (harg17 : arg17.IsWhole)
  (x0 : FVec Ideal S4x512x768 .f32) (x1 : FVec Ideal S4x768x168 .bf16) (x2 : FVec Ideal S1x336 .f32) (x3 : FVec Ideal S1x1x768 .f32) (x4 : FVec Ideal S1x768x768 .bf16) (x5 : FVec Ideal S1x768x768 .bf16) (x6 : FVec Ideal S1x1242x768 .bf16) (x7 : FVec Ideal S1x1242x768 .bf16) (x8 : FVec Ideal S1x768x1242 .bf16) (x9 : FVec Ideal S8x768 .f32)

/-- The router logits of the block. -/
theorem k113 (r : Fin 512) (e : Fin 8) : bodyRunA.sl.v113 (F := Ideal) c arg2 harg2 arg11 harg11 x0 x9 (ix2 r e) = logit (fun n d => x0 (ix3 n r d)) (fun e d => x9 (ix2 e d)) e := by
  pointwise [bodyRunA.sl.v113, bodyRunA.sl.v111, bodyRunA.sl.v109, bodyRunA.sl.v108, bodyRunA.sl.v107, Gen.k0_pay69, Gen.k0_pay70, Gen.k0_pay71, Gen.k0_pay72, bodyRunA.sl.v110, bodyRunA.sl.cst_62, bodyRunA.sl.cst_65, Memref.IsWhole.readAt_unread, ofBits_quarter]
  simp only [logit, Fin.sum_univ_four]

/-- The largest logit. -/
theorem k116 (r : Fin 512) (e : Fin 8) : bodyRunA.sl.v116 (F := Ideal) c arg2 harg2 arg11 harg11 x0 x9 (ix2 r e) = top (logit (fun n d => x0 (ix3 n r d)) (fun e d => x9 (ix2 e d))) := by
  pointwise [bodyRunA.sl.v116, bodyRunA.sl.v115, bodyRunA.sl.v114, k113, ofBits_ninf]
  rfl

/-- The probabilities. -/
theorem k122 (r : Fin 512) (e : Fin 8) : bodyRunA.sl.v122 (F := Ideal) c arg2 harg2 arg11 harg11 x0 x9 (ix2 r e) = prob (logit (fun n d => x0 (ix3 n r d)) (fun e d => x9 (ix2 e d))) e := by
  pointwise [bodyRunA.sl.v122, bodyRunA.sl.v118, bodyRunA.sl.v117, bodyRunA.sl.v121, bodyRunA.sl.v120, bodyRunA.sl.v119, k113, k116, ofBits_ninf]
  rfl

/-- The probability mass before each expert. -/
theorem k244 (r : Fin 512) (e : Fin 8) : bodyRunA.sl.v244 (F := Ideal) c arg2 harg2 arg11 harg11 x0 x9 (ix2 r e) = mass (fun e => bodyRunA.sl.v122 (F := Ideal) c arg2 harg2 arg11 harg11 x0 x9 (ix2 r e)) e := by
  pointwise [bodyRunA.sl.v244, bodyRunA.sl.v229, bodyRunA.sl.v214, bodyRunA.sl.v199, bodyRunA.sl.v184, bodyRunA.sl.v169, bodyRunA.sl.v154, bodyRunA.sl.v139, bodyRunA.sl.v124, bodyRunA.sl.cst_68, bodyRunA.sl.v138, bodyRunA.sl.v127, bodyRunA.sl.v126, bodyRunA.sl.v136, bodyRunA.sl.v135, bodyRunA.sl.v134, bodyRunA.sl.v128, bodyRunA.sl.v133, bodyRunA.sl.v130, bodyRunA.sl.v123, bodyRunA.sl.v131, bodyRunA.sl.v153, bodyRunA.sl.v142, bodyRunA.sl.v141, bodyRunA.sl.v151, bodyRunA.sl.v150, bodyRunA.sl.v149, bodyRunA.sl.v143, bodyRunA.sl.v148, bodyRunA.sl.v145, bodyRunA.sl.v146, bodyRunA.sl.v168, bodyRunA.sl.v157, bodyRunA.sl.v156, bodyRunA.sl.v166, bodyRunA.sl.v165, bodyRunA.sl.v164, bodyRunA.sl.v158, bodyRunA.sl.v163, bodyRunA.sl.v160, bodyRunA.sl.v161, bodyRunA.sl.v183, bodyRunA.sl.v172, bodyRunA.sl.v171, bodyRunA.sl.v181, bodyRunA.sl.v180, bodyRunA.sl.v179, bodyRunA.sl.v173, bodyRunA.sl.v178, bodyRunA.sl.v175, bodyRunA.sl.v176, bodyRunA.sl.v198, bodyRunA.sl.v187, bodyRunA.sl.v186, bodyRunA.sl.v196, bodyRunA.sl.v195, bodyRunA.sl.v194, bodyRunA.sl.v188, bodyRunA.sl.v193, bodyRunA.sl.v190, bodyRunA.sl.v191, bodyRunA.sl.v213, bodyRunA.sl.v202, bodyRunA.sl.v201, bodyRunA.sl.v211, bodyRunA.sl.v210, bodyRunA.sl.v209, bodyRunA.sl.v203, bodyRunA.sl.v208, bodyRunA.sl.v205, bodyRunA.sl.v206, bodyRunA.sl.v228, bodyRunA.sl.v217, bodyRunA.sl.v216, bodyRunA.sl.v226, bodyRunA.sl.v225, bodyRunA.sl.v224, bodyRunA.sl.v218, bodyRunA.sl.v223, bodyRunA.sl.v220, bodyRunA.sl.v221, bodyRunA.sl.v243, bodyRunA.sl.v232, bodyRunA.sl.v231, bodyRunA.sl.v241, bodyRunA.sl.v240, bodyRunA.sl.v239, bodyRunA.sl.v233, bodyRunA.sl.v238, bodyRunA.sl.v235, bodyRunA.sl.v236]
  have b0 := before_word (fun e => bodyRunA.sl.v122 (F := Ideal) c arg2 harg2 arg11 harg11 x0 x9 (ix2 r e)) 0 e
  have b1 := before_word (fun e => bodyRunA.sl.v122 (F := Ideal) c arg2 harg2 arg11 harg11 x0 x9 (ix2 r e)) 1 e
  have b2 := before_word (fun e => bodyRunA.sl.v122 (F := Ideal) c arg2 harg2 arg11 harg11 x0 x9 (ix2 r e)) 2 e
  have b3 := before_word (fun e => bodyRunA.sl.v122 (F := Ideal) c arg2 harg2 arg11 harg11 x0 x9 (ix2 r e)) 3 e
  have b4 := before_word (fun e => bodyRunA.sl.v122 (F := Ideal) c arg2 harg2 arg11 harg11 x0 x9 (ix2 r e)) 4 e
  have b5 := before_word (fun e => bodyRunA.sl.v122 (F := Ideal) c arg2 harg2 arg11 harg11 x0 x9 (ix2 r e)) 5 e
  have b6 := before_word (fun e => bodyRunA.sl.v122 (F := Ideal) c arg2 harg2 arg11 harg11 x0 x9 (ix2 r e)) 6 e
  have b7 := before_word (fun e => bodyRunA.sl.v122 (F := Ideal) c arg2 harg2 arg11 harg11 x0 x9 (ix2 r e)) 7 e
  simp only [Fin.val_zero, Fin.val_one, Fin.val_two, Fin.coe_ofNat_eq_mod, Nat.reduceMod] at b0 b1 b2 b3 b4 b5 b6 b7
  simp only [mass, Fin.sum_univ_eight, b0, b1, b2, b3, b4, b5, b6, b7]

/-- The number of experts before each expert. -/
theorem k245 (r : Fin 512) (e : Fin 8) : bodyRunA.sl.v245 (F := Ideal) c arg2 harg2 arg11 harg11 x0 x9 (ix2 r e) = rank (fun e => bodyRunA.sl.v122 (F := Ideal) c arg2 harg2 arg11 harg11 x0 x9 (ix2 r e)) e := by
  pointwise [bodyRunA.sl.v245, bodyRunA.sl.v230, bodyRunA.sl.v215, bodyRunA.sl.v200, bodyRunA.sl.v185, bodyRunA.sl.v170, bodyRunA.sl.v155, bodyRunA.sl.v140, bodyRunA.sl.v124, bodyRunA.sl.cst_68, bodyRunA.sl.v136, bodyRunA.sl.v135, bodyRunA.sl.v134, bodyRunA.sl.v128, bodyRunA.sl.v127, bodyRunA.sl.v126, bodyRunA.sl.v133, bodyRunA.sl.v130, bodyRunA.sl.v123, bodyRunA.sl.v131, bodyRunA.sl.v151, bodyRunA.sl.v150, bodyRunA.sl.v149, bodyRunA.sl.v143, bodyRunA.sl.v142, bodyRunA.sl.v141, bodyRunA.sl.v148, bodyRunA.sl.v145, bodyRunA.sl.v146, bodyRunA.sl.v166, bodyRunA.sl.v165, bodyRunA.sl.v164, bodyRunA.sl.v158, bodyRunA.sl.v157, bodyRunA.sl.v156, bodyRunA.sl.v163, bodyRunA.sl.v160, bodyRunA.sl.v161, bodyRunA.sl.v181, bodyRunA.sl.v180, bodyRunA.sl.v179, bodyRunA.sl.v173, bodyRunA.sl.v172, bodyRunA.sl.v171, bodyRunA.sl.v178, bodyRunA.sl.v175, bodyRunA.sl.v176, bodyRunA.sl.v196, bodyRunA.sl.v195, bodyRunA.sl.v194, bodyRunA.sl.v188, bodyRunA.sl.v187, bodyRunA.sl.v186, bodyRunA.sl.v193, bodyRunA.sl.v190, bodyRunA.sl.v191, bodyRunA.sl.v211, bodyRunA.sl.v210, bodyRunA.sl.v209, bodyRunA.sl.v203, bodyRunA.sl.v202, bodyRunA.sl.v201, bodyRunA.sl.v208, bodyRunA.sl.v205, bodyRunA.sl.v206, bodyRunA.sl.v226, bodyRunA.sl.v225, bodyRunA.sl.v224, bodyRunA.sl.v218, bodyRunA.sl.v217, bodyRunA.sl.v216, bodyRunA.sl.v223, bodyRunA.sl.v220, bodyRunA.sl.v221, bodyRunA.sl.v241, bodyRunA.sl.v240, bodyRunA.sl.v239, bodyRunA.sl.v233, bodyRunA.sl.v232, bodyRunA.sl.v231, bodyRunA.sl.v238, bodyRunA.sl.v235, bodyRunA.sl.v236]
  have b0 := before_word (fun e => bodyRunA.sl.v122 (F := Ideal) c arg2 harg2 arg11 harg11 x0 x9 (ix2 r e)) 0 e
  have b1 := before_word (fun e => bodyRunA.sl.v122 (F := Ideal) c arg2 harg2 arg11 harg11 x0 x9 (ix2 r e)) 1 e
  have b2 := before_word (fun e => bodyRunA.sl.v122 (F := Ideal) c arg2 harg2 arg11 harg11 x0 x9 (ix2 r e)) 2 e
  have b3 := before_word (fun e => bodyRunA.sl.v122 (F := Ideal) c arg2 harg2 arg11 harg11 x0 x9 (ix2 r e)) 3 e
  have b4 := before_word (fun e => bodyRunA.sl.v122 (F := Ideal) c arg2 harg2 arg11 harg11 x0 x9 (ix2 r e)) 4 e
  have b5 := before_word (fun e => bodyRunA.sl.v122 (F := Ideal) c arg2 harg2 arg11 harg11 x0 x9 (ix2 r e)) 5 e
  have b6 := before_word (fun e => bodyRunA.sl.v122 (F := Ideal) c arg2 harg2 arg11 harg11 x0 x9 (ix2 r e)) 6 e
  have b7 := before_word (fun e => bodyRunA.sl.v122 (F := Ideal) c arg2 harg2 arg11 harg11 x0 x9 (ix2 r e)) 7 e
  simp only [Fin.val_zero, Fin.val_one, Fin.val_two, Fin.coe_ofNat_eq_mod, Nat.reduceMod] at b0 b1 b2 b3 b4 b5 b6 b7
  simp only [rank, Fin.sum_univ_eight, b0, b1, b2, b3, b4, b5, b6, b7]

/-- The gates. -/
theorem k256 (r : Fin 512) (e : Fin 8) : bodyRunA.sl.v256 (F := Ideal) c arg2 harg2 arg11 harg11 x0 x9 (ix2 r e) = gate (prob (logit (fun n d => x0 (ix3 n r d)) (fun e d => x9 (ix2 e d)))) e := by
  have hp : (fun e => bodyRunA.sl.v122 (F := Ideal) c arg2 harg2 arg11 harg11 x0 x9 (ix2 r e)) = prob (logit (fun n d => x0 (ix3 n r d)) (fun e d => x9 (ix2 e d))) := funext fun e => k122 c arg2 harg2 arg11 harg11 x0 x9 r e
  pointwise [bodyRunA.sl.v256, bodyRunA.sl.v255, bodyRunA.sl.v254, bodyRunA.sl.v253, bodyRunA.sl.v250, bodyRunA.sl.v247, bodyRunA.sl.v246, bodyRunA.sl.cst_71, bodyRunA.sl.v249, bodyRunA.sl.v248, bodyRunA.sl.cst_72, bodyRunA.sl.v252, bodyRunA.sl.v124, bodyRunA.sl.cst_68, k244, k245, k122, hp, chosen_word, ofBits_4]
  rfl

/-- The log probability. -/
theorem k261 (r : Fin 512) : Gen.k0_pay23 (F := Ideal) (bodyRunA.sl.v256 (F := Ideal) c arg2 harg2 arg11 harg11 x0 x9) (bodyRunA.sl.v261 (F := Ideal) c arg2 harg2 arg11 harg11 x0 x9) (ix2 r 0) = lp (prob (logit (fun n d => x0 (ix3 n r d)) (fun e d => x9 (ix2 e d)))) (gate (prob (logit (fun n d => x0 (ix3 n r d)) (fun e d => x9 (ix2 e d))))) := by
  pointwise [bodyRunA.sl.v261, Gen.k0_pay23, k122, k256, sitofp_ind]
  rfl

/-- The named constant of the norm over all the streams. -/
theorem named_nd : Named.named (F := Ideal) (φ := .f32) κ "inv_nd" 967486123#32 = ((1 / 3072 : ℝ) : EReal) := by
  rw [one_div]
  exact IdealRules.named_const.ideal_named_scalar (φ := .f32) _ _ _ _ rfl

/-- The norm. -/
theorem kr (a b c d : FVec Ideal S512x768 .f32) (r : Fin 512) : Gen.k0_pay24 (F := Ideal) a b c d (ix2 r 0) = Ideal.rsqrt ((∑ x, a (ix2 r x) * a (ix2 r x) + ∑ x, b (ix2 r x) * b (ix2 r x) + ∑ x, c (ix2 r x) * c (ix2 r x) + ∑ x, d (ix2 r x) * d (ix2 r x)) * ((1 / 3072 : ℝ) : EReal) + eps) := by
  pointwise [Gen.k0_pay24, Gen.k0_pay69, Gen.k0_pay70, Gen.k0_pay71, Gen.k0_pay72, named_nd]
  rfl

/-- The projections of the block. -/
theorem k318 (r : Fin 512) (q : Fin 168) : bodyRunA.sl.v318 (F := Ideal) c arg2 harg2 arg3 harg3 x0 x1 (ix2 r q) = proj (fun n d => x0 (ix3 n r d)) (fun n d => x1 (ix3 n d q)) := by
  pointwise [bodyRunA.sl.v318, bodyRunA.sl.v311, bodyRunA.sl.v304, bodyRunA.sl.r_1, Gen.k0_pay25, Gen.k0_pay69, Gen.k0_pay70, Gen.k0_pay71, Gen.k0_pay72, bodyRunA.sl.v303, bodyRunA.sl.r_2, Gen.k0_pay26, bodyRunA.sl.r_3, Gen.k0_pay27, bodyRunA.sl.cst_96, bodyRunA.sl.v310, bodyRunA.sl.v307, bodyRunA.sl.v306, bodyRunA.sl.v305, bodyRunA.sl.r, bodyRunA.sl.v309, bodyRunA.sl.v317, bodyRunA.sl.v314, bodyRunA.sl.v313, bodyRunA.sl.v316, Memref.IsWhole.readAt_unread, kr]
  simp only [proj, rms, Fin.sum_univ_four]

/-- The weights of the streams in the experts' inputs. -/
theorem k332 (r : Fin 512) (q : Fin 28) : bodyRunA.sl.v332 (F := Ideal) c arg2 harg2 arg3 harg3 arg4 harg4 x0 x1 x2 (ix2 r q) = Spec.sig (proj (fun n d => x0 (ix3 n r d)) (fun n d => x1 (ix3 n d ⟨q.val, by omega⟩)) * x2 (ix2 0 ⟨q.val, by omega⟩) + x2 (ix2 0 ⟨28 + q.val, by omega⟩)) := by
  pointwise [bodyRunA.sl.v332, bodyRunA.sl.v331, bodyRunA.sl.v329, bodyRunA.sl.v327, bodyRunA.sl.v328, bodyRunA.sl.v321, bodyRunA.sl.v320, bodyRunA.sl.v330, bodyRunA.sl.v322, Memref.IsWhole.readAt_unread, k318]
  rfl

/-- The matrix that gives each column its expert's gate. -/
theorem k363 (e : Fin 8) (q : Fin 28) : bodyRunA.sl.v363 (F := Ideal)  (ix2 e q) = ind (e.val = q.val / 4 + 1) := by
  pointwise [bodyRunA.sl.v363, bodyRunA.sl.v362, bodyRunA.sl.v361, bodyRunA.sl.v333, bodyRunA.sl.v358, bodyRunA.sl.v350, bodyRunA.sl.v339, bodyRunA.sl.v334, bodyRunA.sl.v337, bodyRunA.sl.v342, bodyRunA.sl.v349, bodyRunA.sl.v354, bodyRunA.sl.v335, bodyRunA.sl.v357, divsi_pos _ (4#32) (by decide) (by decide), remsi_pos _ (4#32) (by decide) (by decide)]
  have h := fdiv4s q
  unfold fdiv at h
  rw [h]
  show FloatOps.sitofp .f32 (BitVec.setWidth 32 (IntOp.cmpi CmpIPredicate.eq (BitVec.ofNat 32 e.val) (BitVec.ofNat 32 (q.val / 4) + BitVec.ofNat 32 1))) = _
  rw [← BitVec.ofNat_add, cmpi_eq_ofNat _ _ (by omega) (by omega), sitofp_ind]

/-- The gated weights of the experts' outputs in the streams. -/
theorem k373 (r : Fin 512) (k : Fin 7) (n : Fin 4) : bodyRunA.sl.v373 (F := Ideal) c arg2 harg2 arg3 harg3 arg4 harg4 arg11 harg11 x0 x1 x2 x9 (ix2 r (c28 k n)) = gate (prob (logit (fun n d => x0 (ix3 n r d)) (fun e d => x9 (ix2 e d)))) k.succ * (2 * Spec.sig (proj (fun n d => x0 (ix3 n r d)) (fun n' d => x1 (ix3 n' d ⟨28 + (c28 k n).val, by omega⟩)) * x2 (ix2 0 ⟨56 + (c28 k n).val, by omega⟩) + x2 (ix2 0 ⟨84 + (c28 k n).val, by omega⟩))) := by
  pointwise [bodyRunA.sl.v373, bodyRunA.sl.v364, bodyRunA.sl.cst_115, bodyRunA.sl.v372, bodyRunA.sl.v371, bodyRunA.sl.cst_116, bodyRunA.sl.v370, bodyRunA.sl.v369, bodyRunA.sl.v367, bodyRunA.sl.v365, bodyRunA.sl.v366, bodyRunA.sl.v323, bodyRunA.sl.v320, bodyRunA.sl.v368, bodyRunA.sl.v324, Memref.IsWhole.readAt_unread, k318, k256, k363, ofBits_2]
  rw [sum_pick _ k _ (by simp only [c28]; omega)]
  rfl

/-- The mixing matrices before their normalization. -/
theorem k379 (r : Fin 512) (q : Fin 112) : bodyRunA.sl.v379 (F := Ideal) c arg2 harg2 arg3 harg3 arg4 harg4 x0 x1 x2 (ix2 r q) = Ideal.exp (proj (fun n d => x0 (ix3 n r d)) (fun n' d => x1 (ix3 n' d ⟨56 + q.val, by omega⟩)) * x2 (ix2 0 ⟨112 + q.val, by omega⟩) + x2 (ix2 0 ⟨224 + q.val, by omega⟩)) := by
  pointwise [bodyRunA.sl.v379, bodyRunA.sl.v378, bodyRunA.sl.v376, bodyRunA.sl.v374, bodyRunA.sl.v375, bodyRunA.sl.v325, bodyRunA.sl.v320, bodyRunA.sl.v377, bodyRunA.sl.v326, Memref.IsWhole.readAt_unread, k318]

/-- The matrix of the rows. -/
theorem k432 (i j : Fin 112) : bodyRunA.sl.v432 (F := Ideal)  (ix2 i j) = ind (i.val / 4 = j.val / 4) := by
  pointwise [bodyRunA.sl.v432, bodyRunA.sl.v431, bodyRunA.sl.v405, bodyRunA.sl.v397, bodyRunA.sl.v386, bodyRunA.sl.v380, bodyRunA.sl.v384, bodyRunA.sl.v389, bodyRunA.sl.v396, bodyRunA.sl.v401, bodyRunA.sl.v382, bodyRunA.sl.v404, bodyRunA.sl.v429, bodyRunA.sl.v421, bodyRunA.sl.v410, bodyRunA.sl.v381, bodyRunA.sl.v413, bodyRunA.sl.v425, bodyRunA.sl.v428, divsi_pos _ (4#32) (by decide) (by decide), remsi_pos _ (4#32) (by decide) (by decide)]
  have h := fdiv4 i
  have h2 := fdiv4 j
  unfold fdiv at h h2
  rw [h, h2, cmpi_eq_ofNat _ _ (by omega) (by omega), sitofp_ind]

/-- The matrix of the columns. -/
theorem k517 (i j : Fin 112) : bodyRunA.sl.v517 (F := Ideal)  (ix2 i j) = ind (i.val / 16 = j.val / 16 ∧ i.val % 4 = j.val % 4) := by
  pointwise [bodyRunA.sl.v517, bodyRunA.sl.v516, bodyRunA.sl.v515, bodyRunA.sl.v456, bodyRunA.sl.v397, bodyRunA.sl.v386, bodyRunA.sl.v380, bodyRunA.sl.v384, bodyRunA.sl.v389, bodyRunA.sl.v396, bodyRunA.sl.v452, bodyRunA.sl.v433, bodyRunA.sl.v455, bodyRunA.sl.v480, bodyRunA.sl.v421, bodyRunA.sl.v410, bodyRunA.sl.v381, bodyRunA.sl.v413, bodyRunA.sl.v476, bodyRunA.sl.v479, bodyRunA.sl.v497, bodyRunA.sl.v493, bodyRunA.sl.v489, bodyRunA.sl.v382, bodyRunA.sl.v491, bodyRunA.sl.v401, bodyRunA.sl.v496, bodyRunA.sl.v513, bodyRunA.sl.v509, bodyRunA.sl.v505, bodyRunA.sl.v425, bodyRunA.sl.v512, divsi_pos _ (16#32) (by decide) (by decide), remsi_pos _ (16#32) (by decide) (by decide), remsi_pos _ (4#32) (by decide) (by decide)]
  have h := fdiv16 i
  have h2 := fdiv16 j
  have h3 := fmod4 i
  have h4 := fmod4 j
  unfold fdiv at h h2
  unfold fmod at h3 h4
  rw [h, h2, h3, h4, cmpi_eq_ofNat _ _ (by omega) (by omega), cmpi_eq_ofNat _ _ (by omega) (by omega), and_word, sitofp_ind]

/-- Dividing by the row sums. -/
theorem k519 (r : Fin 512) (k : Fin 7) (i j : Fin 4) : bodyRunA.sl.v519 (F := Ideal) c arg2 harg2 arg3 harg3 arg4 harg4 x0 x1 x2 (ix2 r (c112 k i j)) = rowN (fun i j => bodyRunA.sl.v379 (F := Ideal) c arg2 harg2 arg3 harg3 arg4 harg4 x0 x1 x2 (ix2 r (c112 k i j))) i j := by
  pointwise [bodyRunA.sl.v519, bodyRunA.sl.v518, bodyRunA.sl.cst_156, k432]
  rw [sum_row (fun q => bodyRunA.sl.v379 (F := Ideal) c arg2 harg2 arg3 harg3 arg4 harg4 x0 x1 x2 (ix2 r q))]
  rfl

/-- Dividing by the column sums. -/
theorem k521 (r : Fin 512) (k : Fin 7) (i j : Fin 4) : bodyRunA.sl.v521 (F := Ideal) c arg2 harg2 arg3 harg3 arg4 harg4 x0 x1 x2 (ix2 r (c112 k i j)) = colN (fun i j => bodyRunA.sl.v519 (F := Ideal) c arg2 harg2 arg3 harg3 arg4 harg4 x0 x1 x2 (ix2 r (c112 k i j))) i j := by
  pointwise [bodyRunA.sl.v521, bodyRunA.sl.v520, bodyRunA.sl.cst_156, k517]
  rw [sum_col (fun q => bodyRunA.sl.v519 (F := Ideal) c arg2 harg2 arg3 harg3 arg4 harg4 x0 x1 x2 (ix2 r q))]
  rfl

/-- Dividing by the row sums. -/
theorem k523 (r : Fin 512) (k : Fin 7) (i j : Fin 4) : bodyRunA.sl.v523 (F := Ideal) c arg2 harg2 arg3 harg3 arg4 harg4 x0 x1 x2 (ix2 r (c112 k i j)) = rowN (fun i j => bodyRunA.sl.v521 (F := Ideal) c arg2 harg2 arg3 harg3 arg4 harg4 x0 x1 x2 (ix2 r (c112 k i j))) i j := by
  pointwise [bodyRunA.sl.v523, bodyRunA.sl.v522, bodyRunA.sl.cst_156, k432]
  rw [sum_row (fun q => bodyRunA.sl.v521 (F := Ideal) c arg2 harg2 arg3 harg3 arg4 harg4 x0 x1 x2 (ix2 r q))]
  rfl

/-- Dividing by the column sums. -/
theorem k525 (r : Fin 512) (k : Fin 7) (i j : Fin 4) : bodyRunA.sl.v525 (F := Ideal) c arg2 harg2 arg3 harg3 arg4 harg4 x0 x1 x2 (ix2 r (c112 k i j)) = colN (fun i j => bodyRunA.sl.v523 (F := Ideal) c arg2 harg2 arg3 harg3 arg4 harg4 x0 x1 x2 (ix2 r (c112 k i j))) i j := by
  pointwise [bodyRunA.sl.v525, bodyRunA.sl.v524, bodyRunA.sl.cst_156, k517]
  rw [sum_col (fun q => bodyRunA.sl.v523 (F := Ideal) c arg2 harg2 arg3 harg3 arg4 harg4 x0 x1 x2 (ix2 r q))]
  rfl

/-- Dividing by the row sums. -/
theorem k527 (r : Fin 512) (k : Fin 7) (i j : Fin 4) : bodyRunA.sl.v527 (F := Ideal) c arg2 harg2 arg3 harg3 arg4 harg4 x0 x1 x2 (ix2 r (c112 k i j)) = rowN (fun i j => bodyRunA.sl.v525 (F := Ideal) c arg2 harg2 arg3 harg3 arg4 harg4 x0 x1 x2 (ix2 r (c112 k i j))) i j := by
  pointwise [bodyRunA.sl.v527, bodyRunA.sl.v526, bodyRunA.sl.cst_156, k432]
  rw [sum_row (fun q => bodyRunA.sl.v525 (F := Ideal) c arg2 harg2 arg3 harg3 arg4 harg4 x0 x1 x2 (ix2 r q))]
  rfl

/-- Dividing by the column sums. -/
theorem k529 (r : Fin 512) (k : Fin 7) (i j : Fin 4) : bodyRunA.sl.v529 (F := Ideal) c arg2 harg2 arg3 harg3 arg4 harg4 x0 x1 x2 (ix2 r (c112 k i j)) = colN (fun i j => bodyRunA.sl.v527 (F := Ideal) c arg2 harg2 arg3 harg3 arg4 harg4 x0 x1 x2 (ix2 r (c112 k i j))) i j := by
  pointwise [bodyRunA.sl.v529, bodyRunA.sl.v528, bodyRunA.sl.cst_156, k517]
  rw [sum_col (fun q => bodyRunA.sl.v527 (F := Ideal) c arg2 harg2 arg3 harg3 arg4 harg4 x0 x1 x2 (ix2 r q))]
  rfl

/-- Dividing by the row sums. -/
theorem k531 (r : Fin 512) (k : Fin 7) (i j : Fin 4) : bodyRunA.sl.v531 (F := Ideal) c arg2 harg2 arg3 harg3 arg4 harg4 x0 x1 x2 (ix2 r (c112 k i j)) = rowN (fun i j => bodyRunA.sl.v529 (F := Ideal) c arg2 harg2 arg3 harg3 arg4 harg4 x0 x1 x2 (ix2 r (c112 k i j))) i j := by
  pointwise [bodyRunA.sl.v531, bodyRunA.sl.v530, bodyRunA.sl.cst_156, k432]
  rw [sum_row (fun q => bodyRunA.sl.v529 (F := Ideal) c arg2 harg2 arg3 harg3 arg4 harg4 x0 x1 x2 (ix2 r q))]
  rfl

/-- Dividing by the column sums. -/
theorem k533 (r : Fin 512) (k : Fin 7) (i j : Fin 4) : bodyRunA.sl.v533 (F := Ideal) c arg2 harg2 arg3 harg3 arg4 harg4 x0 x1 x2 (ix2 r (c112 k i j)) = colN (fun i j => bodyRunA.sl.v531 (F := Ideal) c arg2 harg2 arg3 harg3 arg4 harg4 x0 x1 x2 (ix2 r (c112 k i j))) i j := by
  pointwise [bodyRunA.sl.v533, bodyRunA.sl.v532, bodyRunA.sl.cst_156, k517]
  rw [sum_col (fun q => bodyRunA.sl.v531 (F := Ideal) c arg2 harg2 arg3 harg3 arg4 harg4 x0 x1 x2 (ix2 r q))]
  rfl

/-- Dividing by the row sums. -/
theorem k535 (r : Fin 512) (k : Fin 7) (i j : Fin 4) : bodyRunA.sl.v535 (F := Ideal) c arg2 harg2 arg3 harg3 arg4 harg4 x0 x1 x2 (ix2 r (c112 k i j)) = rowN (fun i j => bodyRunA.sl.v533 (F := Ideal) c arg2 harg2 arg3 harg3 arg4 harg4 x0 x1 x2 (ix2 r (c112 k i j))) i j := by
  pointwise [bodyRunA.sl.v535, bodyRunA.sl.v534, bodyRunA.sl.cst_156, k432]
  rw [sum_row (fun q => bodyRunA.sl.v533 (F := Ideal) c arg2 harg2 arg3 harg3 arg4 harg4 x0 x1 x2 (ix2 r q))]
  rfl

/-- Dividing by the column sums. -/
theorem k537 (r : Fin 512) (k : Fin 7) (i j : Fin 4) : bodyRunA.sl.v537 (F := Ideal) c arg2 harg2 arg3 harg3 arg4 harg4 x0 x1 x2 (ix2 r (c112 k i j)) = colN (fun i j => bodyRunA.sl.v535 (F := Ideal) c arg2 harg2 arg3 harg3 arg4 harg4 x0 x1 x2 (ix2 r (c112 k i j))) i j := by
  pointwise [bodyRunA.sl.v537, bodyRunA.sl.v536, bodyRunA.sl.cst_156, k517]
  rw [sum_col (fun q => bodyRunA.sl.v535 (F := Ideal) c arg2 harg2 arg3 harg3 arg4 harg4 x0 x1 x2 (ix2 r q))]
  rfl

/-- Dividing by the row sums. -/
theorem k539 (r : Fin 512) (k : Fin 7) (i j : Fin 4) : bodyRunA.sl.v539 (F := Ideal) c arg2 harg2 arg3 harg3 arg4 harg4 x0 x1 x2 (ix2 r (c112 k i j)) = rowN (fun i j => bodyRunA.sl.v537 (F := Ideal) c arg2 harg2 arg3 harg3 arg4 harg4 x0 x1 x2 (ix2 r (c112 k i j))) i j := by
  pointwise [bodyRunA.sl.v539, bodyRunA.sl.v538, bodyRunA.sl.cst_156, k432]
  rw [sum_row (fun q => bodyRunA.sl.v537 (F := Ideal) c arg2 harg2 arg3 harg3 arg4 harg4 x0 x1 x2 (ix2 r q))]
  rfl

/-- Dividing by the column sums. -/
theorem k541 (r : Fin 512) (k : Fin 7) (i j : Fin 4) : bodyRunA.sl.v541 (F := Ideal) c arg2 harg2 arg3 harg3 arg4 harg4 x0 x1 x2 (ix2 r (c112 k i j)) = colN (fun i j => bodyRunA.sl.v539 (F := Ideal) c arg2 harg2 arg3 harg3 arg4 harg4 x0 x1 x2 (ix2 r (c112 k i j))) i j := by
  pointwise [bodyRunA.sl.v541, bodyRunA.sl.v540, bodyRunA.sl.cst_156, k517]
  rw [sum_col (fun q => bodyRunA.sl.v539 (F := Ideal) c arg2 harg2 arg3 harg3 arg4 harg4 x0 x1 x2 (ix2 r q))]
  rfl

/-- The mixing matrices. -/
theorem k541m (r : Fin 512) (k : Fin 7) (i j : Fin 4) : bodyRunA.sl.v541 (F := Ideal) c arg2 harg2 arg3 harg3 arg4 harg4 x0 x1 x2 (ix2 r (c112 k i j)) = sink (fun i j => bodyRunA.sl.v379 (F := Ideal) c arg2 harg2 arg3 harg3 arg4 harg4 x0 x1 x2 (ix2 r (c112 k i j))) i j := by
  simp only [k521, k519, k525, k523, k529, k527, k533, k531, k537, k535, k541, k539]
  rfl

/-- The matrix that gives each of the 112 columns its expert's gate. -/
theorem k572 (e : Fin 8) (q : Fin 112) : bodyRunA.sl.v572 (F := Ideal)  (ix2 e q) = ind (e.val = q.val / 16 + 1) := by
  pointwise [bodyRunA.sl.v572, bodyRunA.sl.v571, bodyRunA.sl.v570, bodyRunA.sl.v542, bodyRunA.sl.v567, bodyRunA.sl.v559, bodyRunA.sl.v548, bodyRunA.sl.v543, bodyRunA.sl.v546, bodyRunA.sl.v551, bodyRunA.sl.v558, bodyRunA.sl.v563, bodyRunA.sl.v544, bodyRunA.sl.v566, divsi_pos _ (16#32) (by decide) (by decide), remsi_pos _ (16#32) (by decide) (by decide)]
  have h := fdiv16 q
  unfold fdiv at h
  rw [h]
  show FloatOps.sitofp .f32 (BitVec.setWidth 32 (IntOp.cmpi CmpIPredicate.eq (BitVec.ofNat 32 e.val) (BitVec.ofNat 32 (q.val / 16) + BitVec.ofNat 32 1))) = _
  rw [← BitVec.ofNat_add, cmpi_eq_ofNat _ _ (by omega) (by omega), sitofp_ind]

/-- The matrix that joins the experts. -/
theorem k594 (i : Fin 112) (j : Fin 16) : bodyRunA.sl.v594 (F := Ideal)  (ix2 i j) = ind (i.val % 16 = j.val) := by
  pointwise [bodyRunA.sl.v594, bodyRunA.sl.v593, bodyRunA.sl.v591, bodyRunA.sl.v587, bodyRunA.sl.v583, bodyRunA.sl.v574, bodyRunA.sl.v578, bodyRunA.sl.v580, bodyRunA.sl.v585, bodyRunA.sl.v581, bodyRunA.sl.v590, bodyRunA.sl.v575, remsi_pos _ (16#32) (by decide) (by decide)]
  have h := fmod16 i
  unfold fmod at h
  rw [h, cmpi_eq_ofNat _ _ (by omega) (by omega), sitofp_ind]

/-- The gated mixing matrix, summed over the experts. -/
theorem k596 (r : Fin 512) (i j : Fin 4) : bodyRunA.sl.v596 (F := Ideal) c arg2 harg2 arg3 harg3 arg4 harg4 arg11 harg11 x0 x1 x2 x9 (ix2 r (fl4 i j)) = ∑ k : Fin 7, sink (fun i j => bodyRunA.sl.v379 (F := Ideal) c arg2 harg2 arg3 harg3 arg4 harg4 x0 x1 x2 (ix2 r (c112 k i j))) i j * gate (prob (logit (fun n d => x0 (ix3 n r d)) (fun e d => x9 (ix2 e d)))) k.succ := by
  pointwise [bodyRunA.sl.v596, bodyRunA.sl.v595, bodyRunA.sl.v573, bodyRunA.sl.cst_156, bodyRunA.sl.cst_183, k594, k572, k256]
  rw [sum_exp (fun q => bodyRunA.sl.v541 (F := Ideal) c arg2 harg2 arg3 harg3 arg4 harg4 x0 x1 x2 (ix2 r q) * ∑ e : Fin 8, gate (prob (logit (fun n d => x0 (ix3 n r d)) (fun e d => x9 (ix2 e d)))) e * ind (e.val = q.val / 16 + 1))]
  refine Finset.sum_congr rfl fun k _ => ?_
  rw [k541m, sum_pick _ k _ (by simp only [c112]; omega)]

/-- A row of the mixed streams. -/
theorem k614 (r : Fin 512) (d : Fin 768) : bodyRunA.sl.v614 (F := Ideal) c arg2 harg2 arg3 harg3 arg4 harg4 arg11 harg11 x0 x1 x2 x9 (ix3 0 r d) = ∑ j, bodyRunA.sl.v596 (F := Ideal) c arg2 harg2 arg3 harg3 arg4 harg4 arg11 harg11 x0 x1 x2 x9 (ix2 r (fl4 0 j)) * x0 (ix3 j r d) := by
  pointwise [bodyRunA.sl.v614, bodyRunA.sl.v611, bodyRunA.sl.v607, bodyRunA.sl.v603, bodyRunA.sl.v599, bodyRunA.sl.v598, bodyRunA.sl.v597, Gen.k0_pay69, bodyRunA.sl.v602, bodyRunA.sl.v601, bodyRunA.sl.v600, Gen.k0_pay70, bodyRunA.sl.v606, bodyRunA.sl.v605, bodyRunA.sl.v604, Gen.k0_pay71, bodyRunA.sl.v610, bodyRunA.sl.v609, bodyRunA.sl.v608, Gen.k0_pay72, Memref.IsWhole.readAt_unread]
  rw [Fin.sum_univ_four]
  rfl

/-- A row of the mixed streams. -/
theorem k632 (r : Fin 512) (d : Fin 768) : bodyRunA.sl.v632 (F := Ideal) c arg2 harg2 arg3 harg3 arg4 harg4 arg11 harg11 x0 x1 x2 x9 (ix3 0 r d) = ∑ j, bodyRunA.sl.v596 (F := Ideal) c arg2 harg2 arg3 harg3 arg4 harg4 arg11 harg11 x0 x1 x2 x9 (ix2 r (fl4 1 j)) * x0 (ix3 j r d) := by
  pointwise [bodyRunA.sl.v632, bodyRunA.sl.v629, bodyRunA.sl.v625, bodyRunA.sl.v621, bodyRunA.sl.v617, bodyRunA.sl.v616, bodyRunA.sl.v615, Gen.k0_pay69, bodyRunA.sl.v620, bodyRunA.sl.v619, bodyRunA.sl.v618, Gen.k0_pay70, bodyRunA.sl.v624, bodyRunA.sl.v623, bodyRunA.sl.v622, Gen.k0_pay71, bodyRunA.sl.v628, bodyRunA.sl.v627, bodyRunA.sl.v626, Gen.k0_pay72, Memref.IsWhole.readAt_unread]
  rw [Fin.sum_univ_four]
  rfl

/-- A row of the mixed streams. -/
theorem k650 (r : Fin 512) (d : Fin 768) : bodyRunA.sl.v650 (F := Ideal) c arg2 harg2 arg3 harg3 arg4 harg4 arg11 harg11 x0 x1 x2 x9 (ix3 0 r d) = ∑ j, bodyRunA.sl.v596 (F := Ideal) c arg2 harg2 arg3 harg3 arg4 harg4 arg11 harg11 x0 x1 x2 x9 (ix2 r (fl4 2 j)) * x0 (ix3 j r d) := by
  pointwise [bodyRunA.sl.v650, bodyRunA.sl.v647, bodyRunA.sl.v643, bodyRunA.sl.v639, bodyRunA.sl.v635, bodyRunA.sl.v634, bodyRunA.sl.v633, Gen.k0_pay69, bodyRunA.sl.v638, bodyRunA.sl.v637, bodyRunA.sl.v636, Gen.k0_pay70, bodyRunA.sl.v642, bodyRunA.sl.v641, bodyRunA.sl.v640, Gen.k0_pay71, bodyRunA.sl.v646, bodyRunA.sl.v645, bodyRunA.sl.v644, Gen.k0_pay72, Memref.IsWhole.readAt_unread]
  rw [Fin.sum_univ_four]
  rfl

/-- A row of the mixed streams. -/
theorem k668 (r : Fin 512) (d : Fin 768) : bodyRunA.sl.v668 (F := Ideal) c arg2 harg2 arg3 harg3 arg4 harg4 arg11 harg11 x0 x1 x2 x9 (ix3 0 r d) = ∑ j, bodyRunA.sl.v596 (F := Ideal) c arg2 harg2 arg3 harg3 arg4 harg4 arg11 harg11 x0 x1 x2 x9 (ix2 r (fl4 3 j)) * x0 (ix3 j r d) := by
  pointwise [bodyRunA.sl.v668, bodyRunA.sl.v665, bodyRunA.sl.v661, bodyRunA.sl.v657, bodyRunA.sl.v653, bodyRunA.sl.v652, bodyRunA.sl.v651, Gen.k0_pay69, bodyRunA.sl.v656, bodyRunA.sl.v655, bodyRunA.sl.v654, Gen.k0_pay70, bodyRunA.sl.v660, bodyRunA.sl.v659, bodyRunA.sl.v658, Gen.k0_pay71, bodyRunA.sl.v664, bodyRunA.sl.v663, bodyRunA.sl.v662, Gen.k0_pay72, Memref.IsWhole.readAt_unread]
  rw [Fin.sum_univ_four]
  rfl

end Cert.KernelIdeal.Hand
-- ==== Proof.KerB.lean ====
/- The kernel body's values of one expert, and of what the body stores, row by row. -/
module

public import proofs.«01_k».proof.Proof.KerA
public import proofs.«01_k».proof.Proof.Run.CaseB
public import Idealize.ShloMosaic.Lib.WholeRead

@[expose] public section

noncomputable section

namespace Cert.KernelIdeal.Hand

open Cert.KernelIdeal.Gen Cert.Spec
open Idealize.ShloMosaic Idealize.ShloMosaic.TcCoe

/-- A store at row `k` of the wide buffer, read at that row. -/
theorem hitO (off : Fin 3 → ℕ) (inb : ∀ a, off a + S1x512x768.size a ≤ S4x512x768.size a) (w : S1x512x768.Idx → Elt Ideal .f32)
    (L : List (View.Piece (Elt Ideal) S4x512x768 .f32)) (k : Fin 4) (r : Fin 512) (d : Fin 768)
    (h0 : off 0 = k.val) (h1 : off 1 = 0) (h2 : off 2 = 0) :
    View.canon ((⟨Rect.unit off S1x512x768.size inb, w⟩ : View.Piece (Elt Ideal) S4x512x768 .f32) :: L) (ix3 k r d) = w (ix3 0 r d) := by
  have h : (ix3 k r d : S4x512x768.Idx) = (Rect.unit (s := S4x512x768) off S1x512x768.size inb).emb (ix3 0 r d : S1x512x768.Idx) := by
    funext a
    refine Fin.ext ?_
    fin_cases a
    · show k.val = off 0 + 1 * 0; omega
    · show r.val = off 1 + 1 * r.val; omega
    · show d.val = off 2 + 1 * d.val; omega
  rw [h]
  exact View.canon_cons_emb _ _ _ _

/-- A store at another row is passed over. -/
theorem missO (off : Fin 3 → ℕ) (inb : ∀ a, off a + S1x512x768.size a ≤ S4x512x768.size a) (w : S1x512x768.Idx → Elt Ideal .f32)
    (L : List (View.Piece (Elt Ideal) S4x512x768 .f32)) (k : Fin 4) (r : Fin 512) (d : Fin 768)
    (h0 : off 0 ≠ k.val) :
    View.canon ((⟨Rect.unit off S1x512x768.size inb, w⟩ : View.Piece (Elt Ideal) S4x512x768 .f32) :: L) (ix3 k r d) = View.canon L (ix3 k r d) := by
  refine View.canon_cons_of_not_mem _ _ fun hm => ?_
  have h : off 0 ≤ k.val ∧ k.val < off 0 + 1 := (Rect.mem_set_unit (s := S4x512x768) (inb := inb)).1 hm 0
  omega

/-- A load of row `k` of the wide buffer. -/
theorem idxO (off : Fin 3 → ℕ) (inb : ∀ a, off a + S1x512x768.size a ≤ S4x512x768.size a) (k : Fin 4) (r : Fin 512) (d : Fin 768)
    (h0 : off 0 = k.val) (h1 : off 1 = 0) (h2 : off 2 = 0) :
    (Rect.unit (s := S4x512x768) off S1x512x768.size inb).toLoadRect.idx (ix3 0 r d : S1x512x768.Idx) = (ix3 k r d : S4x512x768.Idx) := by
  funext a
  refine Fin.ext ?_
  fin_cases a
  · show off 0 + 1 * 0 = k.val; omega
  · show off 1 + 1 * r.val = r.val; omega
  · show off 2 + 1 * d.val = d.val; omega

/-- A store at row `k` of the carried buffer, read at that row. -/
theorem hitS (off : Fin 3 → ℕ) (inb : ∀ a, off a + S1x512x4.size a ≤ S7x512x4.size a) (w : S1x512x4.Idx → Elt Ideal .f32)
    (L : List (View.Piece (Elt Ideal) S7x512x4 .f32)) (k : Fin 7) (r : Fin 512) (d : Fin 4)
    (h0 : off 0 = k.val) (h1 : off 1 = 0) (h2 : off 2 = 0) :
    View.canon ((⟨Rect.unit off S1x512x4.size inb, w⟩ : View.Piece (Elt Ideal) S7x512x4 .f32) :: L) (ix3 k r d) = w (ix3 0 r d) := by
  have h : (ix3 k r d : S7x512x4.Idx) = (Rect.unit (s := S7x512x4) off S1x512x4.size inb).emb (ix3 0 r d : S1x512x4.Idx) := by
    funext a
    refine Fin.ext ?_
    fin_cases a
    · show k.val = off 0 + 1 * 0; omega
    · show r.val = off 1 + 1 * r.val; omega
    · show d.val = off 2 + 1 * d.val; omega
  rw [h]
  exact View.canon_cons_emb _ _ _ _

/-- A store at another row is passed over. -/
theorem missS (off : Fin 3 → ℕ) (inb : ∀ a, off a + S1x512x4.size a ≤ S7x512x4.size a) (w : S1x512x4.Idx → Elt Ideal .f32)
    (L : List (View.Piece (Elt Ideal) S7x512x4 .f32)) (k : Fin 7) (r : Fin 512) (d : Fin 4)
    (h0 : off 0 ≠ k.val) :
    View.canon ((⟨Rect.unit off S1x512x4.size inb, w⟩ : View.Piece (Elt Ideal) S7x512x4 .f32) :: L) (ix3 k r d) = View.canon L (ix3 k r d) := by
  refine View.canon_cons_of_not_mem _ _ fun hm => ?_
  have h : off 0 ≤ k.val ∧ k.val < off 0 + 1 := (Rect.mem_set_unit (s := S7x512x4) (inb := inb)).1 hm 0
  omega

/-- A load of row `k` of the carried buffer. -/
theorem idxS (off : Fin 3 → ℕ) (inb : ∀ a, off a + S1x512x4.size a ≤ S7x512x4.size a) (k : Fin 7) (r : Fin 512) (d : Fin 4)
    (h0 : off 0 = k.val) (h1 : off 1 = 0) (h2 : off 2 = 0) :
    (Rect.unit (s := S7x512x4) off S1x512x4.size inb).toLoadRect.idx (ix3 0 r d : S1x512x4.Idx) = (ix3 k r d : S7x512x4.Idx) := by
  funext a
  refine Fin.ext ?_
  fin_cases a
  · show off 0 + 1 * 0 = k.val; omega
  · show off 1 + 1 * r.val = r.val; omega
  · show off 2 + 1 * d.val = d.val; omega

/-- The row of the carried buffer a point loads: its expert's. -/
theorem off1_row (i : grid0.Coords) (k : Fin 7) (h : (i 1).val = k.val) : k0_off1 i 0 = k.val := by
  show (BitVec.ofNat 32 (i 1).val).toNat = k.val
  rw [BitVec.toNat_ofNat, h]
  omega

/-- An expert's output from the streams and the weights of the streams. -/
def expo (w : Fin 4 → EReal) (s : Tok) (x3 : FVec Ideal S1x1x768 .f32) (x4 : FVec Ideal S1x768x768 .bf16) (x5 : FVec Ideal S1x768x768 .bf16) (x6 : FVec Ideal S1x1242x768 .bf16) (x7 : FVec Ideal S1x1242x768 .bf16) (x8 : FVec Ideal S1x768x1242 .bf16) (d : Fin 768) : EReal :=
  glu (fun o i => x4 (ix3 0 o i)) (fun o i => x5 (ix3 0 o i)) (fun o i => x6 (ix3 0 o i)) (fun o i => x7 (ix3 0 o i)) (fun o i => x8 (ix3 0 o i))
    (normed (fun d => ∑ n, w n * s n d) (fun d => x3 (ix3 0 0 d))) d

/-- The named constant of the norm of an expert's input. -/
theorem named_d : Named.named (F := Ideal) (φ := .f32) κ "inv_d" 984263339#32 = ((1 / 768 : ℝ) : EReal) := by
  rw [one_div]
  exact IdealRules.named_const.ideal_named_scalar (φ := .f32) _ _ _ _ rfl

/-- An expert's input. -/
theorem kp79 (a b c d : Vec Ideal S1x512x768 .f32) (w : Vec Ideal S1x512x4 .f32) (r : Fin 512) (y : Fin 768) :
    Gen.k0_pay79 (F := Ideal) a b c d w (ix2 r y) = w (ix3 0 r 0) * a (ix3 0 r y) + w (ix3 0 r 1) * b (ix3 0 r y) + w (ix3 0 r 2) * c (ix3 0 r y) + w (ix3 0 r 3) * d (ix3 0 r y) := by
  pointwise [Gen.k0_pay79, Gen.k0_pay69, Gen.k0_pay70, Gen.k0_pay71, Gen.k0_pay72]
  try rfl

/-- The factor of its norm. -/
theorem kp80 (a b c d : Vec Ideal S1x512x768 .f32) (w : Vec Ideal S1x512x4 .f32) (r : Fin 512) (y : Fin 768) :
    Gen.k0_pay80 (F := Ideal) a b c d w (ix2 r y) = rms2 (fun y => Gen.k0_pay79 (F := Ideal) a b c d w (ix2 r y)) := by
  pointwise [Gen.k0_pay80, named_d]
  try rfl

/-- The expert's output from its input. -/
theorem kp81 (h q : FVec Ideal S512x768 .f32) (x3 : FVec Ideal S1x1x768 .f32) (x4 : FVec Ideal S1x768x768 .bf16) (x5 : FVec Ideal S1x768x768 .bf16) (x6 : FVec Ideal S1x1242x768 .bf16) (x7 : FVec Ideal S1x1242x768 .bf16) (x8 : FVec Ideal S1x768x1242 .bf16) (r : Fin 512) (y : Fin 768) :
    Gen.k0_pay81 (F := Ideal) h q x3 x4 x5 x6 x7 x8 (ix2 r y) = glu (fun o i => x4 (ix3 0 o i)) (fun o i => x5 (ix3 0 o i)) (fun o i => x6 (ix3 0 o i)) (fun o i => x7 (ix3 0 o i)) (fun o i => x8 (ix3 0 o i)) (fun d => h (ix2 r d) * q (ix2 r d) * x3 (ix3 0 0 d)) y := by
  pointwise [Gen.k0_pay81]
  rfl

variable (c : Dev nD) (i : grid0.Coords) (arg2 : Memref sig .tc .vmem S4x512x768 .f32) (harg2 : arg2.IsWhole) (arg3 : Memref sig .tc .vmem S4x768x168 .bf16) (harg3 : arg3.IsWhole) (arg4 : Memref sig .tc .vmem S1x336 .f32) (harg4 : arg4.IsWhole) (arg5 : Memref sig .tc .vmem S1x1x768 .f32) (harg5 : arg5.IsWhole) (arg6 : Memref sig .tc .vmem S1x768x768 .bf16) (harg6 : arg6.IsWhole) (arg7 : Memref sig .tc .vmem S1x768x768 .bf16) (harg7 : arg7.IsWhole) (arg8 : Memref sig .tc .vmem S1x1242x768 .bf16) (harg8 : arg8.IsWhole) (arg9 : Memref sig .tc .vmem S1x1242x768 .bf16) (harg9 : arg9.IsWhole) (arg10 : Memref sig .tc .vmem S1x768x1242 .bf16) (harg10 : arg10.IsWhole) (arg11 : Memref sig .tc .vmem S8x768 .f32) (harg11 : arg11.IsWhole) (arg12 : Memref sig .tc .vmem S4x512x768 .f32) (harg12 : arg12.IsWhole) (arg13 : Memref sig .tc .vmem S512x8 .f32) (harg13 : arg13.IsWhole) (arg14 : Memref sig .tc .vmem S512x1 .f32) (harg14 : arg14.IsWhole) (arg15 : Memref sig .tc .vmem S512x8 .f32) (harg15 : arg15.IsWhole) (arg16 : Memref sig .tc .vmem S7x512x4 .f32) (harg16 : arg16.IsWhole) (arg17 : Memref sig .tc .vmem S7x512x4 .f32) (harg17 : arg17.IsWhole)
  (x0 : FVec Ideal S4x512x768 .f32) (x1 : FVec Ideal S4x768x168 .bf16) (x2 : FVec Ideal S1x336 .f32) (x3 : FVec Ideal S1x1x768 .f32) (x4 : FVec Ideal S1x768x768 .bf16) (x5 : FVec Ideal S1x768x768 .bf16) (x6 : FVec Ideal S1x1242x768 .bf16) (x7 : FVec Ideal S1x1242x768 .bf16) (x8 : FVec Ideal S1x768x1242 .bf16) (x9 : FVec Ideal S8x768 .f32)

/-- A row of the result, with the expert's output added. -/
theorem kp83 (o : FVec Ideal S512x768 .f32) (g : FVec Ideal S512x4 .f32) (l : Vec Ideal S1x512x768 .f32) (r : Fin 512) (d : Fin 768) : Gen.k0_pay83 (F := Ideal) o g l (ix3 0 r d) = l (ix3 0 r d) + g (ix2 r 0) * o (ix2 r d) := by
  pointwise [Gen.k0_pay83]

/-- A row of the result, with the expert's output added. -/
theorem kp84 (o : FVec Ideal S512x768 .f32) (g : FVec Ideal S512x4 .f32) (l : Vec Ideal S1x512x768 .f32) (r : Fin 512) (d : Fin 768) : Gen.k0_pay84 (F := Ideal) o g l (ix3 0 r d) = l (ix3 0 r d) + g (ix2 r 1) * o (ix2 r d) := by
  pointwise [Gen.k0_pay84]

/-- A row of the result, with the expert's output added. -/
theorem kp85 (o : FVec Ideal S512x768 .f32) (g : FVec Ideal S512x4 .f32) (l : Vec Ideal S1x512x768 .f32) (r : Fin 512) (d : Fin 768) : Gen.k0_pay85 (F := Ideal) o g l (ix3 0 r d) = l (ix3 0 r d) + g (ix2 r 2) * o (ix2 r d) := by
  pointwise [Gen.k0_pay85]

/-- A row of the result, with the expert's output added. -/
theorem kp86 (o : FVec Ideal S512x768 .f32) (g : FVec Ideal S512x4 .f32) (l : Vec Ideal S1x512x768 .f32) (r : Fin 512) (d : Fin 768) : Gen.k0_pay1 (F := Ideal) (Gen.k0_pay86 (F := Ideal) o g l) (ix3 0 r d) = l (ix3 0 r d) + g (ix2 r 3) * o (ix2 r d) := by
  pointwise [Gen.k0_pay1, Gen.k0_pay86]

/-- The gated weights. -/
theorem kp82 (g : Vec Ideal S1x512x4 .f32) (r : Fin 512) (n : Fin 4) : Gen.k0_pay82 (F := Ideal) g (ix2 r n) = g (ix3 0 r n) := by
  pointwise [Gen.k0_pay82]

/-- The carried buffer after the first expert: row 0. -/
theorem kS1_0 (r : Fin 512) (n : Fin 4) : View.canon (bodyRunA.sl.HS1_7 (F := Ideal) c arg2 harg2 arg3 harg3 arg4 harg4 x0 x1 x2) (ix3 0 r n) = bodyRunA.sl.v332 (F := Ideal) c arg2 harg2 arg3 harg3 arg4 harg4 x0 x1 x2 (ix2 r (c28 0 n)) := by
  unfold bodyRunA.sl.HS1_7
  refine (missS _ _ _ _ (0 : Fin 7) _ _ (by decide)).trans ?_
  refine (missS _ _ _ _ (0 : Fin 7) _ _ (by decide)).trans ?_
  refine (missS _ _ _ _ (0 : Fin 7) _ _ (by decide)).trans ?_
  refine (missS _ _ _ _ (0 : Fin 7) _ _ (by decide)).trans ?_
  refine (missS _ _ _ _ (0 : Fin 7) _ _ (by decide)).trans ?_
  refine (missS _ _ _ _ (0 : Fin 7) _ _ (by decide)).trans ?_
  refine (hitS _ _ _ _ (0 : Fin 7) _ _ rfl rfl rfl).trans ?_
  pointwise [bodyRunA.sl.v701, bodyRunA.sl.v696, bodyRunA.sl.v693, bodyRunA.sl.v688, bodyRunA.sl.v685, bodyRunA.sl.v680, bodyRunA.sl.v677, bodyRunA.sl.v672, bodyRunA.sl.v669, Gen.k0_pay77, Gen.k0_pay75, Gen.k0_pay73]
  exact congrArg (fun q => bodyRunA.sl.v332 (F := Ideal) c arg2 harg2 arg3 harg3 arg4 harg4 x0 x1 x2 (ix2 r q)) (Fin.ext (by show n.val = 0 * 4 + n.val; omega))

/-- The carried buffer after the first expert: row 1. -/
theorem kS1_1 (r : Fin 512) (n : Fin 4) : View.canon (bodyRunA.sl.HS1_7 (F := Ideal) c arg2 harg2 arg3 harg3 arg4 harg4 x0 x1 x2) (ix3 1 r n) = bodyRunA.sl.v332 (F := Ideal) c arg2 harg2 arg3 harg3 arg4 harg4 x0 x1 x2 (ix2 r (c28 1 n)) := by
  unfold bodyRunA.sl.HS1_7
  refine (missS _ _ _ _ (1 : Fin 7) _ _ (by decide)).trans ?_
  refine (missS _ _ _ _ (1 : Fin 7) _ _ (by decide)).trans ?_
  refine (missS _ _ _ _ (1 : Fin 7) _ _ (by decide)).trans ?_
  refine (missS _ _ _ _ (1 : Fin 7) _ _ (by decide)).trans ?_
  refine (missS _ _ _ _ (1 : Fin 7) _ _ (by decide)).trans ?_
  refine (hitS _ _ _ _ (1 : Fin 7) _ _ rfl rfl rfl).trans ?_
  pointwise [bodyRunA.sl.v701, bodyRunA.sl.v696, bodyRunA.sl.v693, bodyRunA.sl.v688, bodyRunA.sl.v685, bodyRunA.sl.v680, bodyRunA.sl.v677, bodyRunA.sl.v672, bodyRunA.sl.v669, Gen.k0_pay77, Gen.k0_pay75, Gen.k0_pay73]
  try rfl

/-- The carried buffer after the first expert: row 2. -/
theorem kS1_2 (r : Fin 512) (n : Fin 4) : View.canon (bodyRunA.sl.HS1_7 (F := Ideal) c arg2 harg2 arg3 harg3 arg4 harg4 x0 x1 x2) (ix3 2 r n) = bodyRunA.sl.v332 (F := Ideal) c arg2 harg2 arg3 harg3 arg4 harg4 x0 x1 x2 (ix2 r (c28 2 n)) := by
  unfold bodyRunA.sl.HS1_7
  refine (missS _ _ _ _ (2 : Fin 7) _ _ (by decide)).trans ?_
  refine (missS _ _ _ _ (2 : Fin 7) _ _ (by decide)).trans ?_
  refine (missS _ _ _ _ (2 : Fin 7) _ _ (by decide)).trans ?_
  refine (missS _ _ _ _ (2 : Fin 7) _ _ (by decide)).trans ?_
  refine (hitS _ _ _ _ (2 : Fin 7) _ _ rfl rfl rfl).trans ?_
  pointwise [bodyRunA.sl.v701, bodyRunA.sl.v696, bodyRunA.sl.v693, bodyRunA.sl.v688, bodyRunA.sl.v685, bodyRunA.sl.v680, bodyRunA.sl.v677, bodyRunA.sl.v672, bodyRunA.sl.v669, Gen.k0_pay77, Gen.k0_pay75, Gen.k0_pay73]
  try rfl

/-- The carried buffer after the first expert: row 3. -/
theorem kS1_3 (r : Fin 512) (n : Fin 4) : View.canon (bodyRunA.sl.HS1_7 (F := Ideal) c arg2 harg2 arg3 harg3 arg4 harg4 x0 x1 x2) (ix3 3 r n) = bodyRunA.sl.v332 (F := Ideal) c arg2 harg2 arg3 harg3 arg4 harg4 x0 x1 x2 (ix2 r (c28 3 n)) := by
  unfold bodyRunA.sl.HS1_7
  refine (missS _ _ _ _ (3 : Fin 7) _ _ (by decide)).trans ?_
  refine (missS _ _ _ _ (3 : Fin 7) _ _ (by decide)).trans ?_
  refine (missS _ _ _ _ (3 : Fin 7) _ _ (by decide)).trans ?_
  refine (hitS _ _ _ _ (3 : Fin 7) _ _ rfl rfl rfl).trans ?_
  pointwise [bodyRunA.sl.v701, bodyRunA.sl.v696, bodyRunA.sl.v693, bodyRunA.sl.v688, bodyRunA.sl.v685, bodyRunA.sl.v680, bodyRunA.sl.v677, bodyRunA.sl.v672, bodyRunA.sl.v669, Gen.k0_pay77, Gen.k0_pay75, Gen.k0_pay73]
  try rfl

/-- The carried buffer after the first expert: row 4. -/
theorem kS1_4 (r : Fin 512) (n : Fin 4) : View.canon (bodyRunA.sl.HS1_7 (F := Ideal) c arg2 harg2 arg3 harg3 arg4 harg4 x0 x1 x2) (ix3 4 r n) = bodyRunA.sl.v332 (F := Ideal) c arg2 harg2 arg3 harg3 arg4 harg4 x0 x1 x2 (ix2 r (c28 4 n)) := by
  unfold bodyRunA.sl.HS1_7
  refine (missS _ _ _ _ (4 : Fin 7) _ _ (by decide)).trans ?_
  refine (missS _ _ _ _ (4 : Fin 7) _ _ (by decide)).trans ?_
  refine (hitS _ _ _ _ (4 : Fin 7) _ _ rfl rfl rfl).trans ?_
  pointwise [bodyRunA.sl.v701, bodyRunA.sl.v696, bodyRunA.sl.v693, bodyRunA.sl.v688, bodyRunA.sl.v685, bodyRunA.sl.v680, bodyRunA.sl.v677, bodyRunA.sl.v672, bodyRunA.sl.v669, Gen.k0_pay77, Gen.k0_pay75, Gen.k0_pay73]
  try rfl

/-- The carried buffer after the first expert: row 5. -/
theorem kS1_5 (r : Fin 512) (n : Fin 4) : View.canon (bodyRunA.sl.HS1_7 (F := Ideal) c arg2 harg2 arg3 harg3 arg4 harg4 x0 x1 x2) (ix3 5 r n) = bodyRunA.sl.v332 (F := Ideal) c arg2 harg2 arg3 harg3 arg4 harg4 x0 x1 x2 (ix2 r (c28 5 n)) := by
  unfold bodyRunA.sl.HS1_7
  refine (missS _ _ _ _ (5 : Fin 7) _ _ (by decide)).trans ?_
  refine (hitS _ _ _ _ (5 : Fin 7) _ _ rfl rfl rfl).trans ?_
  pointwise [bodyRunA.sl.v701, bodyRunA.sl.v696, bodyRunA.sl.v693, bodyRunA.sl.v688, bodyRunA.sl.v685, bodyRunA.sl.v680, bodyRunA.sl.v677, bodyRunA.sl.v672, bodyRunA.sl.v669, Gen.k0_pay77, Gen.k0_pay75, Gen.k0_pay73]
  try rfl

/-- The carried buffer after the first expert: row 6. -/
theorem kS1_6 (r : Fin 512) (n : Fin 4) : View.canon (bodyRunA.sl.HS1_7 (F := Ideal) c arg2 harg2 arg3 harg3 arg4 harg4 x0 x1 x2) (ix3 6 r n) = bodyRunA.sl.v332 (F := Ideal) c arg2 harg2 arg3 harg3 arg4 harg4 x0 x1 x2 (ix2 r (c28 6 n)) := by
  unfold bodyRunA.sl.HS1_7
  refine (hitS _ _ _ _ (6 : Fin 7) _ _ rfl rfl rfl).trans ?_
  pointwise [bodyRunA.sl.v701, bodyRunA.sl.v696, bodyRunA.sl.v693, bodyRunA.sl.v688, bodyRunA.sl.v685, bodyRunA.sl.v680, bodyRunA.sl.v677, bodyRunA.sl.v672, bodyRunA.sl.v669, Gen.k0_pay77, Gen.k0_pay75, Gen.k0_pay73]
  try rfl

/-- The carried buffer after the first expert. -/
theorem kS1 (k : Fin 7) (r : Fin 512) (n : Fin 4) : View.canon (bodyRunA.sl.HS1_7 (F := Ideal) c arg2 harg2 arg3 harg3 arg4 harg4 x0 x1 x2) (ix3 k r n) = bodyRunA.sl.v332 (F := Ideal) c arg2 harg2 arg3 harg3 arg4 harg4 x0 x1 x2 (ix2 r (c28 k n)) := by
  match k with
  | 0 => exact kS1_0 c arg2 harg2 arg3 harg3 arg4 harg4 x0 x1 x2 r n
  | 1 => exact kS1_1 c arg2 harg2 arg3 harg3 arg4 harg4 x0 x1 x2 r n
  | 2 => exact kS1_2 c arg2 harg2 arg3 harg3 arg4 harg4 x0 x1 x2 r n
  | 3 => exact kS1_3 c arg2 harg2 arg3 harg3 arg4 harg4 x0 x1 x2 r n
  | 4 => exact kS1_4 c arg2 harg2 arg3 harg3 arg4 harg4 x0 x1 x2 r n
  | 5 => exact kS1_5 c arg2 harg2 arg3 harg3 arg4 harg4 x0 x1 x2 r n
  | 6 => exact kS1_6 c arg2 harg2 arg3 harg3 arg4 harg4 x0 x1 x2 r n

/-- The carried buffer after the first expert: row 0. -/
theorem kS2_0 (r : Fin 512) (n : Fin 4) : View.canon (bodyRunA.sl.HS2_7 (F := Ideal) c arg2 harg2 arg3 harg3 arg4 harg4 arg11 harg11 x0 x1 x2 x9) (ix3 0 r n) = bodyRunA.sl.v373 (F := Ideal) c arg2 harg2 arg3 harg3 arg4 harg4 arg11 harg11 x0 x1 x2 x9 (ix2 r (c28 0 n)) := by
  unfold bodyRunA.sl.HS2_7
  refine (missS _ _ _ _ (0 : Fin 7) _ _ (by decide)).trans ?_
  refine (missS _ _ _ _ (0 : Fin 7) _ _ (by decide)).trans ?_
  refine (missS _ _ _ _ (0 : Fin 7) _ _ (by decide)).trans ?_
  refine (missS _ _ _ _ (0 : Fin 7) _ _ (by decide)).trans ?_
  refine (missS _ _ _ _ (0 : Fin 7) _ _ (by decide)).trans ?_
  refine (missS _ _ _ _ (0 : Fin 7) _ _ (by decide)).trans ?_
  refine (hitS _ _ _ _ (0 : Fin 7) _ _ rfl rfl rfl).trans ?_
  pointwise [bodyRunA.sl.v700, bodyRunA.sl.v697, bodyRunA.sl.v692, bodyRunA.sl.v689, bodyRunA.sl.v684, bodyRunA.sl.v681, bodyRunA.sl.v676, bodyRunA.sl.v673, Gen.k0_pay78, Gen.k0_pay76, Gen.k0_pay74]
  exact congrArg (fun q => bodyRunA.sl.v373 (F := Ideal) c arg2 harg2 arg3 harg3 arg4 harg4 arg11 harg11 x0 x1 x2 x9 (ix2 r q)) (Fin.ext (by show n.val = 0 * 4 + n.val; omega))

/-- The carried buffer after the first expert: row 1. -/
theorem kS2_1 (r : Fin 512) (n : Fin 4) : View.canon (bodyRunA.sl.HS2_7 (F := Ideal) c arg2 harg2 arg3 harg3 arg4 harg4 arg11 harg11 x0 x1 x2 x9) (ix3 1 r n) = bodyRunA.sl.v373 (F := Ideal) c arg2 harg2 arg3 harg3 arg4 harg4 arg11 harg11 x0 x1 x2 x9 (ix2 r (c28 1 n)) := by
  unfold bodyRunA.sl.HS2_7
  refine (missS _ _ _ _ (1 : Fin 7) _ _ (by decide)).trans ?_
  refine (missS _ _ _ _ (1 : Fin 7) _ _ (by decide)).trans ?_
  refine (missS _ _ _ _ (1 : Fin 7) _ _ (by decide)).trans ?_
  refine (missS _ _ _ _ (1 : Fin 7) _ _ (by decide)).trans ?_
  refine (missS _ _ _ _ (1 : Fin 7) _ _ (by decide)).trans ?_
  refine (hitS _ _ _ _ (1 : Fin 7) _ _ rfl rfl rfl).trans ?_
  pointwise [bodyRunA.sl.v700, bodyRunA.sl.v697, bodyRunA.sl.v692, bodyRunA.sl.v689, bodyRunA.sl.v684, bodyRunA.sl.v681, bodyRunA.sl.v676, bodyRunA.sl.v673, Gen.k0_pay78, Gen.k0_pay76, Gen.k0_pay74]
  try rfl

/-- The carried buffer after the first expert: row 2. -/
theorem kS2_2 (r : Fin 512) (n : Fin 4) : View.canon (bodyRunA.sl.HS2_7 (F := Ideal) c arg2 harg2 arg3 harg3 arg4 harg4 arg11 harg11 x0 x1 x2 x9) (ix3 2 r n) = bodyRunA.sl.v373 (F := Ideal) c arg2 harg2 arg3 harg3 arg4 harg4 arg11 harg11 x0 x1 x2 x9 (ix2 r (c28 2 n)) := by
  unfold bodyRunA.sl.HS2_7
  refine (missS _ _ _ _ (2 : Fin 7) _ _ (by decide)).trans ?_
  refine (missS _ _ _ _ (2 : Fin 7) _ _ (by decide)).trans ?_
  refine (missS _ _ _ _ (2 : Fin 7) _ _ (by decide)).trans ?_
  refine (missS _ _ _ _ (2 : Fin 7) _ _ (by decide)).trans ?_
  refine (hitS _ _ _ _ (2 : Fin 7) _ _ rfl rfl rfl).trans ?_
  pointwise [bodyRunA.sl.v700, bodyRunA.sl.v697, bodyRunA.sl.v692, bodyRunA.sl.v689, bodyRunA.sl.v684, bodyRunA.sl.v681, bodyRunA.sl.v676, bodyRunA.sl.v673, Gen.k0_pay78, Gen.k0_pay76, Gen.k0_pay74]
  try rfl

/-- The carried buffer after the first expert: row 3. -/
theorem kS2_3 (r : Fin 512) (n : Fin 4) : View.canon (bodyRunA.sl.HS2_7 (F := Ideal) c arg2 harg2 arg3 harg3 arg4 harg4 arg11 harg11 x0 x1 x2 x9) (ix3 3 r n) = bodyRunA.sl.v373 (F := Ideal) c arg2 harg2 arg3 harg3 arg4 harg4 arg11 harg11 x0 x1 x2 x9 (ix2 r (c28 3 n)) := by
  unfold bodyRunA.sl.HS2_7
  refine (missS _ _ _ _ (3 : Fin 7) _ _ (by decide)).trans ?_
  refine (missS _ _ _ _ (3 : Fin 7) _ _ (by decide)).trans ?_
  refine (missS _ _ _ _ (3 : Fin 7) _ _ (by decide)).trans ?_
  refine (hitS _ _ _ _ (3 : Fin 7) _ _ rfl rfl rfl).trans ?_
  pointwise [bodyRunA.sl.v700, bodyRunA.sl.v697, bodyRunA.sl.v692, bodyRunA.sl.v689, bodyRunA.sl.v684, bodyRunA.sl.v681, bodyRunA.sl.v676, bodyRunA.sl.v673, Gen.k0_pay78, Gen.k0_pay76, Gen.k0_pay74]
  try rfl

/-- The carried buffer after the first expert: row 4. -/
theorem kS2_4 (r : Fin 512) (n : Fin 4) : View.canon (bodyRunA.sl.HS2_7 (F := Ideal) c arg2 harg2 arg3 harg3 arg4 harg4 arg11 harg11 x0 x1 x2 x9) (ix3 4 r n) = bodyRunA.sl.v373 (F := Ideal) c arg2 harg2 arg3 harg3 arg4 harg4 arg11 harg11 x0 x1 x2 x9 (ix2 r (c28 4 n)) := by
  unfold bodyRunA.sl.HS2_7
  refine (missS _ _ _ _ (4 : Fin 7) _ _ (by decide)).trans ?_
  refine (missS _ _ _ _ (4 : Fin 7) _ _ (by decide)).trans ?_
  refine (hitS _ _ _ _ (4 : Fin 7) _ _ rfl rfl rfl).trans ?_
  pointwise [bodyRunA.sl.v700, bodyRunA.sl.v697, bodyRunA.sl.v692, bodyRunA.sl.v689, bodyRunA.sl.v684, bodyRunA.sl.v681, bodyRunA.sl.v676, bodyRunA.sl.v673, Gen.k0_pay78, Gen.k0_pay76, Gen.k0_pay74]
  try rfl

/-- The carried buffer after the first expert: row 5. -/
theorem kS2_5 (r : Fin 512) (n : Fin 4) : View.canon (bodyRunA.sl.HS2_7 (F := Ideal) c arg2 harg2 arg3 harg3 arg4 harg4 arg11 harg11 x0 x1 x2 x9) (ix3 5 r n) = bodyRunA.sl.v373 (F := Ideal) c arg2 harg2 arg3 harg3 arg4 harg4 arg11 harg11 x0 x1 x2 x9 (ix2 r (c28 5 n)) := by
  unfold bodyRunA.sl.HS2_7
  refine (missS _ _ _ _ (5 : Fin 7) _ _ (by decide)).trans ?_
  refine (hitS _ _ _ _ (5 : Fin 7) _ _ rfl rfl rfl).trans ?_
  pointwise [bodyRunA.sl.v700, bodyRunA.sl.v697, bodyRunA.sl.v692, bodyRunA.sl.v689, bodyRunA.sl.v684, bodyRunA.sl.v681, bodyRunA.sl.v676, bodyRunA.sl.v673, Gen.k0_pay78, Gen.k0_pay76, Gen.k0_pay74]
  try rfl

/-- The carried buffer after the first expert: row 6. -/
theorem kS2_6 (r : Fin 512) (n : Fin 4) : View.canon (bodyRunA.sl.HS2_7 (F := Ideal) c arg2 harg2 arg3 harg3 arg4 harg4 arg11 harg11 x0 x1 x2 x9) (ix3 6 r n) = bodyRunA.sl.v373 (F := Ideal) c arg2 harg2 arg3 harg3 arg4 harg4 arg11 harg11 x0 x1 x2 x9 (ix2 r (c28 6 n)) := by
  unfold bodyRunA.sl.HS2_7
  refine (hitS _ _ _ _ (6 : Fin 7) _ _ rfl rfl rfl).trans ?_
  pointwise [bodyRunA.sl.v700, bodyRunA.sl.v697, bodyRunA.sl.v692, bodyRunA.sl.v689, bodyRunA.sl.v684, bodyRunA.sl.v681, bodyRunA.sl.v676, bodyRunA.sl.v673, Gen.k0_pay78, Gen.k0_pay76, Gen.k0_pay74]
  try rfl

/-- The carried buffer after the first expert. -/
theorem kS2 (k : Fin 7) (r : Fin 512) (n : Fin 4) : View.canon (bodyRunA.sl.HS2_7 (F := Ideal) c arg2 harg2 arg3 harg3 arg4 harg4 arg11 harg11 x0 x1 x2 x9) (ix3 k r n) = bodyRunA.sl.v373 (F := Ideal) c arg2 harg2 arg3 harg3 arg4 harg4 arg11 harg11 x0 x1 x2 x9 (ix2 r (c28 k n)) := by
  match k with
  | 0 => exact kS2_0 c arg2 harg2 arg3 harg3 arg4 harg4 arg11 harg11 x0 x1 x2 x9 r n
  | 1 => exact kS2_1 c arg2 harg2 arg3 harg3 arg4 harg4 arg11 harg11 x0 x1 x2 x9 r n
  | 2 => exact kS2_2 c arg2 harg2 arg3 harg3 arg4 harg4 arg11 harg11 x0 x1 x2 x9 r n
  | 3 => exact kS2_3 c arg2 harg2 arg3 harg3 arg4 harg4 arg11 harg11 x0 x1 x2 x9 r n
  | 4 => exact kS2_4 c arg2 harg2 arg3 harg3 arg4 harg4 arg11 harg11 x0 x1 x2 x9 r n
  | 5 => exact kS2_5 c arg2 harg2 arg3 harg3 arg4 harg4 arg11 harg11 x0 x1 x2 x9 r n
  | 6 => exact kS2_6 c arg2 harg2 arg3 harg3 arg4 harg4 arg11 harg11 x0 x1 x2 x9 r n

/-- The row of the carried buffer that the first expert loads. -/
theorem kv12 (h : (i 1).val = 0) (r : Fin 512) (n : Fin 4) : bodyRunA.sl.v12 (F := Ideal) c i arg2 harg2 arg3 harg3 arg4 harg4 arg16 x0 x1 x2 (ix3 0 r n) = bodyRunA.sl.v332 (F := Ideal) c arg2 harg2 arg3 harg3 arg4 harg4 x0 x1 x2 (ix2 r (c28 0 n)) := by
  unfold bodyRunA.sl.v12
  rw [View.readAt_writes_junk_eq_canon]
  beta_reduce
  rw [idxS (k0_off1 i) _ (0 : Fin 7) r n (off1_row i 0 h) rfl rfl, kS1]

/-- The row of the carried buffer that the first expert loads. -/
theorem kv69 (h : (i 1).val = 0) (r : Fin 512) (n : Fin 4) : bodyRunA.sl.v69 (F := Ideal) c i arg2 harg2 arg3 harg3 arg4 harg4 arg11 harg11 arg17 x0 x1 x2 x9 (ix3 0 r n) = bodyRunA.sl.v373 (F := Ideal) c arg2 harg2 arg3 harg3 arg4 harg4 arg11 harg11 x0 x1 x2 x9 (ix2 r (c28 0 n)) := by
  unfold bodyRunA.sl.v69
  rw [View.readAt_writes_junk_eq_canon]
  beta_reduce
  rw [idxS (k0_off1 i) _ (0 : Fin 7) r n (off1_row i 0 h) rfl rfl, kS2]

/-- The first expert's output. -/
theorem kr6 (h : (i 1).val = 0) (r : Fin 512) (d : Fin 768) : bodyRunA.sl.r_6 (F := Ideal) c i arg2 harg2 arg3 harg3 arg4 harg4 arg5 harg5 arg6 harg6 arg7 harg7 arg8 harg8 arg9 harg9 arg10 harg10 arg16 x0 x1 x2 x3 x4 x5 x6 x7 x8 (ix2 r d) = expo (fun n => bodyRunA.sl.v332 (F := Ideal) c arg2 harg2 arg3 harg3 arg4 harg4 x0 x1 x2 (ix2 r (c28 0 n))) (fun n d => x0 (ix3 n r d)) x3 x4 x5 x6 x7 x8 d := by
  unfold bodyRunA.sl.r_6 bodyRunA.sl.r_5 bodyRunA.sl.r_4
  rw [kp81]
  simp only [kp80, kp79, kv12 (h := h)]
  pointwise [Memref.IsWhole.readAt_unread]
  unfold expo normed
  simp only [Fin.sum_univ_four]

/-- The row of the result before the first expert. -/
theorem kv71 (r : Fin 512) (d : Fin 768) : bodyRunA.sl.v71 (F := Ideal) c arg2 harg2 arg3 harg3 arg4 harg4 arg11 harg11 arg12 x0 x1 x2 x9 (ix3 0 r d) = bodyRunA.sl.v614 (F := Ideal) c arg2 harg2 arg3 harg3 arg4 harg4 arg11 harg11 x0 x1 x2 x9 (ix3 0 r d) := by
  unfold bodyRunA.sl.v71
  rw [View.readCov_eq_canon']
  beta_reduce
  rw [idxO _ _ (0 : Fin 4) r d rfl rfl rfl]
  unfold bodyRunA.sl.H10_4
  refine (missO _ _ _ _ (0 : Fin 4) _ _ (by decide)).trans ?_
  refine (missO _ _ _ _ (0 : Fin 4) _ _ (by decide)).trans ?_
  refine (missO _ _ _ _ (0 : Fin 4) _ _ (by decide)).trans ?_
  exact hitO _ _ _ _ (0 : Fin 4) _ _ rfl rfl rfl

/-- The row of the result before the first expert. -/
theorem kv80 (r : Fin 512) (d : Fin 768) : bodyRunA.sl.v80 (F := Ideal) c i arg2 harg2 arg3 harg3 arg4 harg4 arg5 harg5 arg6 harg6 arg7 harg7 arg8 harg8 arg9 harg9 arg10 harg10 arg11 harg11 arg12 arg16 arg17 x0 x1 x2 x3 x4 x5 x6 x7 x8 x9 (ix3 0 r d) = bodyRunA.sl.v632 (F := Ideal) c arg2 harg2 arg3 harg3 arg4 harg4 arg11 harg11 x0 x1 x2 x9 (ix3 0 r d) := by
  unfold bodyRunA.sl.v80
  rw [View.readCov_eq_canon']
  beta_reduce
  rw [idxO _ _ (1 : Fin 4) r d rfl rfl rfl]
  unfold bodyRunA.sl.H10_5 bodyRunA.sl.H10_4
  refine (missO _ _ _ _ (1 : Fin 4) _ _ (by decide)).trans ?_
  refine (missO _ _ _ _ (1 : Fin 4) _ _ (by decide)).trans ?_
  refine (missO _ _ _ _ (1 : Fin 4) _ _ (by decide)).trans ?_
  exact hitO _ _ _ _ (1 : Fin 4) _ _ rfl rfl rfl

/-- The row of the result before the first expert. -/
theorem kv89 (r : Fin 512) (d : Fin 768) : bodyRunA.sl.v89 (F := Ideal) c i arg2 harg2 arg3 harg3 arg4 harg4 arg5 harg5 arg6 harg6 arg7 harg7 arg8 harg8 arg9 harg9 arg10 harg10 arg11 harg11 arg12 arg16 arg17 x0 x1 x2 x3 x4 x5 x6 x7 x8 x9 (ix3 0 r d) = bodyRunA.sl.v650 (F := Ideal) c arg2 harg2 arg3 harg3 arg4 harg4 arg11 harg11 x0 x1 x2 x9 (ix3 0 r d) := by
  unfold bodyRunA.sl.v89
  rw [View.readCov_eq_canon']
  beta_reduce
  rw [idxO _ _ (2 : Fin 4) r d rfl rfl rfl]
  unfold bodyRunA.sl.H10_6 bodyRunA.sl.H10_5 bodyRunA.sl.H10_4
  refine (missO _ _ _ _ (2 : Fin 4) _ _ (by decide)).trans ?_
  refine (missO _ _ _ _ (2 : Fin 4) _ _ (by decide)).trans ?_
  refine (missO _ _ _ _ (2 : Fin 4) _ _ (by decide)).trans ?_
  exact hitO _ _ _ _ (2 : Fin 4) _ _ rfl rfl rfl

/-- The row of the result before the first expert. -/
theorem kv98 (r : Fin 512) (d : Fin 768) : bodyRunA.sl.v98 (F := Ideal) c i arg2 harg2 arg3 harg3 arg4 harg4 arg5 harg5 arg6 harg6 arg7 harg7 arg8 harg8 arg9 harg9 arg10 harg10 arg11 harg11 arg12 arg16 arg17 x0 x1 x2 x3 x4 x5 x6 x7 x8 x9 (ix3 0 r d) = bodyRunA.sl.v668 (F := Ideal) c arg2 harg2 arg3 harg3 arg4 harg4 arg11 harg11 x0 x1 x2 x9 (ix3 0 r d) := by
  unfold bodyRunA.sl.v98
  rw [View.readCov_eq_canon']
  beta_reduce
  rw [idxO _ _ (3 : Fin 4) r d rfl rfl rfl]
  unfold bodyRunA.sl.H10_7 bodyRunA.sl.H10_6 bodyRunA.sl.H10_5 bodyRunA.sl.H10_4
  refine (missO _ _ _ _ (3 : Fin 4) _ _ (by decide)).trans ?_
  refine (missO _ _ _ _ (3 : Fin 4) _ _ (by decide)).trans ?_
  refine (missO _ _ _ _ (3 : Fin 4) _ _ (by decide)).trans ?_
  exact hitO _ _ _ _ (3 : Fin 4) _ _ rfl rfl rfl

/-- The result block after the first expert. -/
theorem kO_A (h : (i 1).val = 0) (n : Fin 4) (r : Fin 512) (d : Fin 768) : View.canon ((⟨Rect.unit ![3, 0, 0] S1x512x768.size Gen.inb_S4x512x768_S1x512x768_3_0_0, Gen.k0_pay1 (bodyRunA.sl.r_8 (F := Ideal) c i arg2 harg2 arg3 harg3 arg4 harg4 arg5 harg5 arg6 harg6 arg7 harg7 arg8 harg8 arg9 harg9 arg10 harg10 arg11 harg11 arg12 arg16 arg17 x0 x1 x2 x3 x4 x5 x6 x7 x8 x9)⟩ : View.Piece (Elt Ideal) S4x512x768 .f32) :: bodyRunA.sl.H10_7 (F := Ideal) c i arg2 harg2 arg3 harg3 arg4 harg4 arg5 harg5 arg6 harg6 arg7 harg7 arg8 harg8 arg9 harg9 arg10 harg10 arg11 harg11 arg12 arg16 arg17 x0 x1 x2 x3 x4 x5 x6 x7 x8 x9) (ix3 n r d) = (∑ j, bodyRunA.sl.v596 (F := Ideal) c arg2 harg2 arg3 harg3 arg4 harg4 arg11 harg11 x0 x1 x2 x9 (ix2 r (fl4 n j)) * x0 (ix3 j r d)) + bodyRunA.sl.v373 (F := Ideal) c arg2 harg2 arg3 harg3 arg4 harg4 arg11 harg11 x0 x1 x2 x9 (ix2 r (c28 0 n)) * expo (fun n => bodyRunA.sl.v332 (F := Ideal) c arg2 harg2 arg3 harg3 arg4 harg4 x0 x1 x2 (ix2 r (c28 0 n))) (fun n d => x0 (ix3 n r d)) x3 x4 x5 x6 x7 x8 d := by
  fin_cases n
  · refine (missO _ _ _ _ (⟨0, by decide⟩ : Fin 4) _ _ (by decide)).trans ?_
    unfold bodyRunA.sl.H10_7 bodyRunA.sl.H10_6 bodyRunA.sl.H10_5
    refine (missO _ _ _ _ (⟨0, by decide⟩ : Fin 4) _ _ (by decide)).trans ?_
    refine (missO _ _ _ _ (⟨0, by decide⟩ : Fin 4) _ _ (by decide)).trans ?_
    refine (hitO _ _ _ _ (⟨0, by decide⟩ : Fin 4) _ _ rfl rfl rfl).trans ?_
    rw [kp83, kr6 (h := h), kv71, k614]
    unfold bodyRunA.sl.r_7
    rw [kp82, kv69 (h := h)]
    rfl
  · refine (missO _ _ _ _ (⟨1, by decide⟩ : Fin 4) _ _ (by decide)).trans ?_
    unfold bodyRunA.sl.H10_7 bodyRunA.sl.H10_6
    refine (missO _ _ _ _ (⟨1, by decide⟩ : Fin 4) _ _ (by decide)).trans ?_
    refine (hitO _ _ _ _ (⟨1, by decide⟩ : Fin 4) _ _ rfl rfl rfl).trans ?_
    rw [kp84, kr6 (h := h), kv80, k632]
    unfold bodyRunA.sl.r_7
    rw [kp82, kv69 (h := h)]
    rfl
  · refine (missO _ _ _ _ (⟨2, by decide⟩ : Fin 4) _ _ (by decide)).trans ?_
    unfold bodyRunA.sl.H10_7
    refine (hitO _ _ _ _ (⟨2, by decide⟩ : Fin 4) _ _ rfl rfl rfl).trans ?_
    rw [kp85, kr6 (h := h), kv89, k650]
    unfold bodyRunA.sl.r_7
    rw [kp82, kv69 (h := h)]
    rfl
  · refine (hitO _ _ _ _ (⟨3, by decide⟩ : Fin 4) _ _ rfl rfl rfl).trans ?_
    unfold bodyRunA.sl.r_8
    rw [kp86, kr6 (h := h), kv98, k668]
    unfold bodyRunA.sl.r_7
    rw [kp82, kv69 (h := h)]
    rfl

variable (xo10 : FVec Ideal S4x512x768 .f32) (xs1 xs2 : FVec Ideal S7x512x4 .f32)

/-- The load of the point's row of a carried buffer. -/
theorem load_row (m : Memref sig .tc .vmem S7x512x4 .f32) (hm : m.IsWhole) (xs : FVec Ideal S7x512x4 .f32) (inb : ∀ a, k0_off1 i a + S1x512x4.size a ≤ S7x512x4.size a)
    (k : Fin 7) (h : (i 1).val = k.val) (r : Fin 512) (n : Fin 4) :
    View.readAt (Elt Ideal) m.view (Rect.unit (s := S7x512x4) (k0_off1 i) S1x512x4.size inb).toLoadRect (hm.unread xs) (ix3 0 r n) = xs (ix3 k r n) := by
  rw [Memref.IsWhole.readAt_unread, idxS (k0_off1 i) _ k r n (off1_row i k h) rfl rfl]

/-- The expert's output. -/
theorem kr2 (k : Fin 7) (h : (i 1).val = k.val) (r : Fin 512) (d : Fin 768) : bodyRunB.sl.r_2 (F := Ideal) c i arg2 harg2 arg5 harg5 arg6 harg6 arg7 harg7 arg8 harg8 arg9 harg9 arg10 harg10 arg16 harg16 x0 x3 x4 x5 x6 x7 x8 xs1 (ix2 r d) = expo (fun n => xs1 (ix3 k r n)) (fun n d => x0 (ix3 n r d)) x3 x4 x5 x6 x7 x8 d := by
  unfold bodyRunB.sl.r_2 bodyRunB.sl.r_1 bodyRunB.sl.r
  rw [kp81]
  simp only [kp80, kp79, load_row i arg16 harg16 xs1 _ k h]
  pointwise [Memref.IsWhole.readAt_unread]
  unfold expo normed
  simp only [Fin.sum_univ_four]

/-- The result block after a later expert. -/
theorem kO_B (k : Fin 7) (h : (i 1).val = k.val) (n : Fin 4) (r : Fin 512) (d : Fin 768) : View.canon ([⟨Rect.unit (s := S4x512x768) ![3, 0, 0] S1x512x768.size Gen.inb_S4x512x768_S1x512x768_3_0_0, Gen.k0_pay1 (bodyRunB.sl.r_4 (F := Ideal) c i arg2 harg2 arg5 harg5 arg6 harg6 arg7 harg7 arg8 harg8 arg9 harg9 arg10 harg10 arg12 harg12 arg16 harg16 arg17 harg17 x0 x3 x4 x5 x6 x7 x8 xo10 xs1 xs2)⟩, ⟨Rect.unit (s := S4x512x768) ![2, 0, 0] S1x512x768.size Gen.inb_S4x512x768_S1x512x768_2_0_0, Gen.k0_pay85 (bodyRunB.sl.r_2 (F := Ideal) c i arg2 harg2 arg5 harg5 arg6 harg6 arg7 harg7 arg8 harg8 arg9 harg9 arg10 harg10 arg16 harg16 x0 x3 x4 x5 x6 x7 x8 xs1) (bodyRunB.sl.r_3 (F := Ideal) c i arg17 harg17 xs2) (bodyRunB.sl.v89 (F := Ideal) c arg12 harg12 xo10)⟩, ⟨Rect.unit (s := S4x512x768) ![1, 0, 0] S1x512x768.size Gen.inb_S4x512x768_S1x512x768_1_0_0, Gen.k0_pay84 (bodyRunB.sl.r_2 (F := Ideal) c i arg2 harg2 arg5 harg5 arg6 harg6 arg7 harg7 arg8 harg8 arg9 harg9 arg10 harg10 arg16 harg16 x0 x3 x4 x5 x6 x7 x8 xs1) (bodyRunB.sl.r_3 (F := Ideal) c i arg17 harg17 xs2) (bodyRunB.sl.v80 (F := Ideal) c arg12 harg12 xo10)⟩, ⟨Rect.unit (s := S4x512x768) ![0, 0, 0] S1x512x768.size Gen.inb_S4x512x768_S1x512x768_0_0_0, Gen.k0_pay83 (bodyRunB.sl.r_2 (F := Ideal) c i arg2 harg2 arg5 harg5 arg6 harg6 arg7 harg7 arg8 harg8 arg9 harg9 arg10 harg10 arg16 harg16 x0 x3 x4 x5 x6 x7 x8 xs1) (bodyRunB.sl.r_3 (F := Ideal) c i arg17 harg17 xs2) (View.readAt (Elt Ideal) arg12.view (Rect.unit (s := S4x512x768) ![0, 0, 0] S1x512x768.size Gen.inb_S4x512x768_S1x512x768_0_0_0).toLoadRect (harg12.unread xo10))⟩] : List (View.Piece (Elt Ideal) S4x512x768 .f32)) (ix3 n r d) = xo10 (ix3 n r d) + xs2 (ix3 k r n) * expo (fun n => xs1 (ix3 k r n)) (fun n d => x0 (ix3 n r d)) x3 x4 x5 x6 x7 x8 d := by
  fin_cases n
  · refine (missO _ _ _ _ (⟨0, by decide⟩ : Fin 4) _ _ (by decide)).trans ?_
    refine (missO _ _ _ _ (⟨0, by decide⟩ : Fin 4) _ _ (by decide)).trans ?_
    refine (missO _ _ _ _ (⟨0, by decide⟩ : Fin 4) _ _ (by decide)).trans ?_
    refine (hitO _ _ _ _ (⟨0, by decide⟩ : Fin 4) _ _ rfl rfl rfl).trans ?_
    rw [kp83, kr2 (k := k) (h := h)]
    unfold bodyRunB.sl.r_3
    rw [kp82, load_row i arg17 harg17 xs2 _ k h, Memref.IsWhole.readAt_unread, idxO _ _ (0 : Fin 4) r d rfl rfl rfl]
    rfl
  · refine (missO _ _ _ _ (⟨1, by decide⟩ : Fin 4) _ _ (by decide)).trans ?_
    refine (missO _ _ _ _ (⟨1, by decide⟩ : Fin 4) _ _ (by decide)).trans ?_
    refine (hitO _ _ _ _ (⟨1, by decide⟩ : Fin 4) _ _ rfl rfl rfl).trans ?_
    rw [kp84, kr2 (k := k) (h := h)]
    unfold bodyRunB.sl.r_3 bodyRunB.sl.v80
    rw [kp82, load_row i arg17 harg17 xs2 _ k h, Memref.IsWhole.readAt_unread, idxO _ _ (1 : Fin 4) r d rfl rfl rfl]
    rfl
  · refine (missO _ _ _ _ (⟨2, by decide⟩ : Fin 4) _ _ (by decide)).trans ?_
    refine (hitO _ _ _ _ (⟨2, by decide⟩ : Fin 4) _ _ rfl rfl rfl).trans ?_
    rw [kp85, kr2 (k := k) (h := h)]
    unfold bodyRunB.sl.r_3 bodyRunB.sl.v89
    rw [kp82, load_row i arg17 harg17 xs2 _ k h, Memref.IsWhole.readAt_unread, idxO _ _ (2 : Fin 4) r d rfl rfl rfl]
    rfl
  · refine (hitO _ _ _ _ (⟨3, by decide⟩ : Fin 4) _ _ rfl rfl rfl).trans ?_
    unfold bodyRunB.sl.r_4
    rw [kp86, kr2 (k := k) (h := h)]
    unfold bodyRunB.sl.r_3 bodyRunB.sl.v98
    rw [kp82, load_row i arg17 harg17 xs2 _ k h, Memref.IsWhole.readAt_unread, idxO _ _ (3 : Fin 4) r d rfl rfl rfl]
    rfl

end Cert.KernelIdeal.Hand
-- ==== Proof.Host.lean ====
/- What the launch finds: the arrays made on the host, entry by entry. -/
module

public import proofs.«01_k».proof.Proof.Consts
public import proofs.«01_k».proof.Proof.Gen.KernelIdeal.Frame
public import Idealize.ShloMosaic.Lib.StableHlo.RunRead

@[expose] public section

noncomputable section

namespace Cert.KernelIdeal.Hand

open Cert.KernelIdeal Cert.KernelIdeal.Gen Cert.Spec
open Idealize.ShloMosaic Idealize.ShloMosaic.TcCoe StableHlo

variable (m : (ℓ : Loc nD τ sig) → Buf (Elt Ideal) ℓ) (c : Dev nD)

/-- The parameters, as launched. -/
def pars : Par := par (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))
  (m ((c : Thread nD τ).loc main_arg10)) (m ((c : Thread nD τ).loc main_arg11)) (m ((c : Thread nD τ).loc main_arg12))
  (m ((c : Thread nD τ).loc main_arg13)) (m ((c : Thread nD τ).loc main_arg14)) (m ((c : Thread nD τ).loc main_arg15))
  (m ((c : Thread nD τ).loc main_arg16)) (m ((c : Thread nD τ).loc main_arg17))

/-- The streams of token `t`, as launched. -/
def toks (t : Fin 2048) : Tok := tok (m ((c : Thread nD τ).loc main_arg0)) t

/-! ## The arrays -/

/-- The weights of argument 2 times the norm weights, the experts behind the first laid side by side. -/
def wA (a1 : FVec Ideal S8x3072 .f32) (a2 : FVec Ideal S8x4x3072 .f32) : FVec Ideal S4x768x28 .f32 :=
  shapeCast S4x768x28 (transpose S4x768x7x4 [2, 3, 0, 1] (extractStridedSlice S7x4x4x768 ![1, 0, 0, 0] (mulf (F := Ideal) (φ := .f32)
    (shapeCast S8x4x4x768 a2 shapeCasts_S8x4x3072_S8x4x4x768)
    (broadcastInDim S8x4x4x768 ![0, 1, 2, 3] bcast_S8x1x4x768_S8x4x4x768_0_1_2_3 (shapeCast S8x1x4x768 a1 shapeCasts_S8x3072_S8x1x4x768)))
    slices_S8x4x4x768_S7x4x4x768_1_0_0_0) transposes_S7x4x4x768_S4x768x7x4_2_3_0_1) shapeCasts_S4x768x7x4_S4x768x28

/-- The weights of argument 3 times the norm weights, the experts behind the first laid side by side. -/
def wB (a1 : FVec Ideal S8x3072 .f32) (a2 : FVec Ideal S8x4x3072 .f32) : FVec Ideal S4x768x28 .f32 :=
  shapeCast S4x768x28 (transpose S4x768x7x4 [2, 3, 0, 1] (extractStridedSlice S7x4x4x768 ![1, 0, 0, 0] (mulf (F := Ideal) (φ := .f32)
    (shapeCast S8x4x4x768 a2 shapeCasts_S8x4x3072_S8x4x4x768)
    (broadcastInDim S8x4x4x768 ![0, 1, 2, 3] bcast_S8x1x4x768_S8x4x4x768_0_1_2_3 (shapeCast S8x1x4x768 a1 shapeCasts_S8x3072_S8x1x4x768)))
    slices_S8x4x4x768_S7x4x4x768_1_0_0_0) transposes_S7x4x4x768_S4x768x7x4_2_3_0_1) shapeCasts_S4x768x7x4_S4x768x28

/-- The weights of argument 4 times the norm weights, the experts behind the first laid side by side. -/
def wC (a1 : FVec Ideal S8x3072 .f32) (a2 : FVec Ideal S8x16x3072 .f32) : FVec Ideal S4x768x112 .f32 :=
  shapeCast S4x768x112 (transpose S4x768x7x16 [2, 3, 0, 1] (extractStridedSlice S7x16x4x768 ![1, 0, 0, 0] (mulf (F := Ideal) (φ := .f32)
    (shapeCast S8x16x4x768 a2 shapeCasts_S8x16x3072_S8x16x4x768)
    (broadcastInDim S8x16x4x768 ![0, 1, 2, 3] bcast_S8x1x4x768_S8x16x4x768_0_1_2_3 (shapeCast S8x1x4x768 a1 shapeCasts_S8x3072_S8x1x4x768)))
    slices_S8x16x4x768_S7x16x4x768_1_0_0_0) transposes_S7x16x4x768_S4x768x7x16_2_3_0_1) shapeCasts_S4x768x7x16_S4x768x112

/-- All three weights side by side. -/
def wAll (a1 : FVec Ideal S8x3072 .f32) (a2 a3 : FVec Ideal S8x4x3072 .f32) (a4 : FVec Ideal S8x16x3072 .f32) : FVec Ideal S4x768x168 .f32 :=
  concatenate S4x768x168 2 [⟨S4x768x28, wA a1 a2⟩, ⟨S4x768x28, wB a1 a3⟩, ⟨S4x768x112, wC a1 a4⟩]
    concatenates_S4x768x28_S4x768x28_S4x768x112_S4x768x168_d2

/-- The scales and shifts side by side. -/
def sAll (a5 a6 : FVec Ideal S8x4 .f32) (a7 : FVec Ideal S8x4x4 .f32) (a8 a9 a10 : FVec Ideal S8 .f32) : FVec Ideal S336 .f32 :=
  concatenate S336 0 [⟨S28, shapeCast S28 (broadcastInDim S7x4 ![0] bcast_S7_S7x4_0 (extractStridedSlice S7 ![1] a8 slices_S8_S7_1)) shapeCasts_S7x4_S28⟩,
    ⟨S28, shapeCast S28 (extractStridedSlice S7x4 ![1, 0] a5 slices_S8x4_S7x4_1_0) shapeCasts_S7x4_S28⟩,
    ⟨S28, shapeCast S28 (broadcastInDim S7x4 ![0] bcast_S7_S7x4_0 (extractStridedSlice S7 ![1] a9 slices_S8_S7_1)) shapeCasts_S7x4_S28⟩,
    ⟨S28, shapeCast S28 (extractStridedSlice S7x4 ![1, 0] a6 slices_S8x4_S7x4_1_0) shapeCasts_S7x4_S28⟩,
    ⟨S112, shapeCast S112 (broadcastInDim S7x16 ![0] bcast_S7_S7x16_0 (extractStridedSlice S7 ![1] a10 slices_S8_S7_1)) shapeCasts_S7x16_S112⟩,
    ⟨S112, shapeCast S112 (extractStridedSlice S7x4x4 ![1, 0, 0] a7 slices_S8x4x4_S7x4x4_1_0_0) shapeCasts_S7x4x4_S112⟩]
    concatenates_S28_S28_S28_S28_S112_S112_S336_d0

theorem V_v0 : V m c main_v0 = (shapeCast S4x2048x768 (m ((c : Thread nD τ).loc main_arg0)) shapeCasts_S1x4x2048x768_S4x2048x768) := by
  show after hostOps0 (fun b => m (c, b)) (Proc.devRef .tc main_v0) = _
  after_reads_simp
  first | done | rfl

theorem V_v44 : V m c main_v44 = (wAll (m ((c : Thread nD τ).loc main_arg1)) (m ((c : Thread nD τ).loc main_arg2)) (m ((c : Thread nD τ).loc main_arg3)) (m ((c : Thread nD τ).loc main_arg4))) := by
  show after hostOps0 (fun b => m (c, b)) (Proc.devRef .tc main_v44) = _
  after_reads_simp
  first | done | rfl

theorem V_v37 : V m c main_v37 = (broadcastInDim S1x336 ![1] bcast_S336_S1x336_1 (sAll (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) := by
  show after hostOps0 (fun b => m (c, b)) (Proc.devRef .tc main_v37) = _
  after_reads_simp
  first | done | rfl

theorem V_v38 : V m c main_v38 = (broadcastInDim S8x1x768 ![0, 2] bcast_S8x768_S8x1x768_0_2 (m ((c : Thread nD τ).loc main_arg11))) := by
  show after hostOps0 (fun b => m (c, b)) (Proc.devRef .tc main_v38) = _
  after_reads_simp
  first | done | rfl

theorem V_v39 : V m c main_v39 = ((m ((c : Thread nD τ).loc main_arg12))) := by
  show after hostOps0 (fun b => m (c, b)) (Proc.devRef .tc main_v39) = _
  after_reads_simp
  first | done | rfl

theorem V_v40 : V m c main_v40 = ((m ((c : Thread nD τ).loc main_arg13))) := by
  show after hostOps0 (fun b => m (c, b)) (Proc.devRef .tc main_v40) = _
  after_reads_simp
  first | done | rfl

theorem V_v41 : V m c main_v41 = ((m ((c : Thread nD τ).loc main_arg14))) := by
  show after hostOps0 (fun b => m (c, b)) (Proc.devRef .tc main_v41) = _
  after_reads_simp
  first | done | rfl

theorem V_v42 : V m c main_v42 = ((m ((c : Thread nD τ).loc main_arg15))) := by
  show after hostOps0 (fun b => m (c, b)) (Proc.devRef .tc main_v42) = _
  after_reads_simp
  first | done | rfl

theorem V_v43 : V m c main_v43 = ((m ((c : Thread nD τ).loc main_arg16))) := by
  show after hostOps0 (fun b => m (c, b)) (Proc.devRef .tc main_v43) = _
  after_reads_simp
  first | done | rfl

/-! ## Their entries -/

theorem ix1_congr {a : ℕ} {i i' : Fin a} (hi : i.val = i'.val) : ix1 i = ix1 i' := by rw [Fin.ext hi]
theorem ix2_congr {a b : ℕ} {i i' : Fin a} {j j' : Fin b} (hi : i.val = i'.val) (hj : j.val = j'.val) : ix2 i j = ix2 i' j' := by
  rw [Fin.ext hi, Fin.ext hj]
theorem ix3_congr {a b c : ℕ} {i i' : Fin a} {j j' : Fin b} {k k' : Fin c} (hi : i.val = i'.val) (hj : j.val = j'.val)
    (hk : k.val = k'.val) : ix3 i j k = ix3 i' j' k' := by rw [Fin.ext hi, Fin.ext hj, Fin.ext hk]

theorem wA_at (a1 : FVec Ideal S8x3072 .f32) (a2 : FVec Ideal S8x4x3072 .f32) (n : Fin 4) (d : Fin 768) (k : Fin 7) (e : Fin 4) (q : Fin 28) (hq : q.val = k.val * 4 + e.val) :
    wA a1 a2 (ix3 n d q) = a2 (ix3 k.succ e (fl n d)) * a1 (ix2 k.succ (fl n d)) := by
  have hk := k.isLt
  have he := e.isLt
  have hn := n.isLt
  have hd := d.isLt
  pointwise [wA]
  refine congrArg₂ (fun (u v : EReal) => u * v) (congrArg a2 (ix3_congr ?_ ?_ ?_)) (congrArg a1 (ix2_congr ?_ ?_)) <;> simp only [fl, Fin.val_succ] <;> omega

theorem wB_at (a1 : FVec Ideal S8x3072 .f32) (a2 : FVec Ideal S8x4x3072 .f32) (n : Fin 4) (d : Fin 768) (k : Fin 7) (e : Fin 4) (q : Fin 28) (hq : q.val = k.val * 4 + e.val) :
    wB a1 a2 (ix3 n d q) = a2 (ix3 k.succ e (fl n d)) * a1 (ix2 k.succ (fl n d)) := by
  have hk := k.isLt
  have he := e.isLt
  have hn := n.isLt
  have hd := d.isLt
  pointwise [wB]
  refine congrArg₂ (fun (u v : EReal) => u * v) (congrArg a2 (ix3_congr ?_ ?_ ?_)) (congrArg a1 (ix2_congr ?_ ?_)) <;> simp only [fl, Fin.val_succ] <;> omega

theorem wC_at (a1 : FVec Ideal S8x3072 .f32) (a2 : FVec Ideal S8x16x3072 .f32) (n : Fin 4) (d : Fin 768) (k : Fin 7) (e : Fin 16) (q : Fin 112) (hq : q.val = k.val * 16 + e.val) :
    wC a1 a2 (ix3 n d q) = a2 (ix3 k.succ e (fl n d)) * a1 (ix2 k.succ (fl n d)) := by
  have hk := k.isLt
  have he := e.isLt
  have hn := n.isLt
  have hd := d.isLt
  pointwise [wC]
  refine congrArg₂ (fun (u v : EReal) => u * v) (congrArg a2 (ix3_congr ?_ ?_ ?_)) (congrArg a1 (ix2_congr ?_ ?_)) <;> simp only [fl, Fin.val_succ] <;> omega

theorem wAll_A (a1 : FVec Ideal S8x3072 .f32) (a2 a3 : FVec Ideal S8x4x3072 .f32) (a4 : FVec Ideal S8x16x3072 .f32) (n : Fin 4) (d : Fin 768) (q : Fin 28) :
    wAll a1 a2 a3 a4 (ix3 n d ⟨q.val, by omega⟩) = wA a1 a2 (ix3 n d q) := by
  pointwise [wAll]

theorem wAll_B (a1 : FVec Ideal S8x3072 .f32) (a2 a3 : FVec Ideal S8x4x3072 .f32) (a4 : FVec Ideal S8x16x3072 .f32) (n : Fin 4) (d : Fin 768) (q : Fin 28) :
    wAll a1 a2 a3 a4 (ix3 n d ⟨28 + q.val, by omega⟩) = wB a1 a3 (ix3 n d q) := by
  pointwise [wAll]

theorem wAll_C (a1 : FVec Ideal S8x3072 .f32) (a2 a3 : FVec Ideal S8x4x3072 .f32) (a4 : FVec Ideal S8x16x3072 .f32) (n : Fin 4) (d : Fin 768) (q : Fin 112) :
    wAll a1 a2 a3 a4 (ix3 n d ⟨56 + q.val, by omega⟩) = wC a1 a4 (ix3 n d q) := by
  pointwise [wAll]
  rw [dif_neg (by omega), dif_neg (by omega)]
  exact congrArg _ (ix3_congr rfl rfl (by show 56 + q.val - 28 - 28 = q.val; omega))

theorem sAll_0 (a5 a6 : FVec Ideal S8x4 .f32) (a7 : FVec Ideal S8x4x4 .f32) (a8 a9 a10 : FVec Ideal S8 .f32) (k : Fin 7) (e : Fin 4) (q : Fin 28)
    (hq : q.val = k.val * 4 + e.val) : sAll a5 a6 a7 a8 a9 a10 (ix1 ⟨q.val, by omega⟩) = a8 (ix1 k.succ) := by
  have hk := k.isLt
  have he := e.isLt
  pointwise [sAll]
  skip
  exact congrArg a8 (ix1_congr (by simp only [Fin.val_succ]; omega))

theorem sAll_1 (a5 a6 : FVec Ideal S8x4 .f32) (a7 : FVec Ideal S8x4x4 .f32) (a8 a9 a10 : FVec Ideal S8 .f32) (k : Fin 7) (e : Fin 4) (q : Fin 28)
    (hq : q.val = k.val * 4 + e.val) : sAll a5 a6 a7 a8 a9 a10 (ix1 ⟨28 + q.val, by omega⟩) = a5 (ix2 k.succ e) := by
  have hk := k.isLt
  have he := e.isLt
  pointwise [sAll]
  skip
  exact congrArg a5 (ix2_congr (by simp only [Fin.val_succ]; omega) (by simp only [Fin.val_succ]; omega))

theorem sAll_2 (a5 a6 : FVec Ideal S8x4 .f32) (a7 : FVec Ideal S8x4x4 .f32) (a8 a9 a10 : FVec Ideal S8 .f32) (k : Fin 7) (e : Fin 4) (q : Fin 28)
    (hq : q.val = k.val * 4 + e.val) : sAll a5 a6 a7 a8 a9 a10 (ix1 ⟨56 + q.val, by omega⟩) = a9 (ix1 k.succ) := by
  have hk := k.isLt
  have he := e.isLt
  pointwise [sAll]
  rw [dif_neg (by omega), dif_neg (by omega), dif_pos (by omega)]
  exact congrArg a9 (ix1_congr (by simp only [Fin.val_succ]; omega))

theorem sAll_3 (a5 a6 : FVec Ideal S8x4 .f32) (a7 : FVec Ideal S8x4x4 .f32) (a8 a9 a10 : FVec Ideal S8 .f32) (k : Fin 7) (e : Fin 4) (q : Fin 28)
    (hq : q.val = k.val * 4 + e.val) : sAll a5 a6 a7 a8 a9 a10 (ix1 ⟨84 + q.val, by omega⟩) = a6 (ix2 k.succ e) := by
  have hk := k.isLt
  have he := e.isLt
  pointwise [sAll]
  rw [dif_neg (by omega), dif_neg (by omega), dif_neg (by omega), dif_pos (by omega)]
  exact congrArg a6 (ix2_congr (by simp only [Fin.val_succ]; omega) (by simp only [Fin.val_succ]; omega))

theorem sAll_4 (a5 a6 : FVec Ideal S8x4 .f32) (a7 : FVec Ideal S8x4x4 .f32) (a8 a9 a10 : FVec Ideal S8 .f32) (k : Fin 7) (e : Fin 16) (q : Fin 112)
    (hq : q.val = k.val * 16 + e.val) : sAll a5 a6 a7 a8 a9 a10 (ix1 ⟨112 + q.val, by omega⟩) = a10 (ix1 k.succ) := by
  have hk := k.isLt
  have he := e.isLt
  pointwise [sAll]
  rw [dif_neg (by omega), dif_neg (by omega), dif_neg (by omega), dif_neg (by omega), dif_pos (by omega)]
  exact congrArg a10 (ix1_congr (by simp only [Fin.val_succ]; omega))

theorem sAll_5 (a5 a6 : FVec Ideal S8x4 .f32) (a7 : FVec Ideal S8x4x4 .f32) (a8 a9 a10 : FVec Ideal S8 .f32) (k : Fin 7) (i j : Fin 4) (q : Fin 112)
    (hq : q.val = k.val * 16 + i.val * 4 + j.val) : sAll a5 a6 a7 a8 a9 a10 (ix1 ⟨224 + q.val, by omega⟩) = a7 (ix3 k.succ i j) := by
  have hk := k.isLt
  have he := i.isLt
  have hj := j.isLt
  pointwise [sAll]
  rw [dif_neg (by omega), dif_neg (by omega), dif_neg (by omega), dif_neg (by omega), dif_neg (by omega)]
  exact congrArg a7 (ix3_congr (by simp only [Fin.val_succ]; omega) (by simp only []; omega) (by simp only []; omega))

end Cert.KernelIdeal.Hand
-- ==== Proof.Blocks.lean ====
/- What each grid point finds in its input windows. -/
module

public import proofs.«01_k».proof.Proof.Host

@[expose] public section

noncomputable section

namespace Cert.KernelIdeal.Hand

open Cert.KernelIdeal Cert.KernelIdeal.Gen Cert.Spec
open Idealize.ShloMosaic Idealize.ShloMosaic.TcCoe StableHlo

variable (m : (ℓ : Loc nD τ sig) → Buf (Elt Ideal) ℓ) (c : Dev nD)

/-- The number of grid points. -/
theorem points (t : Fin cfg0.N) : t.val < 28 := lt_of_lt_of_eq t.isLt N_0

/-- The expert of a grid point, counted from the second. -/
def kk (t : Fin cfg0.N) : Fin 7 := ⟨t.val % 7, by omega⟩
/-- The token of row `r` at a grid point. -/
def tt (t : Fin cfg0.N) (r : Fin 512) : Fin 2048 := ⟨t.val / 7 * 512 + r.val, by have := points t; omega⟩

/-- The streams without their first axis. -/
theorem rows0 (a0 : FVec Ideal S1x4x2048x768 .f32) (n : Fin 4) (t : Fin 2048) (d : Fin 768) :
    shapeCast S4x2048x768 a0 shapeCasts_S1x4x2048x768_S4x2048x768 (ix3 n t d) = a0 (ix4 0 n t d) := by
  pointwise

theorem idx0 : ∀ t : Fin cfg0.N, win0_0.index t (0 : Fin 3) = 0 ∧ win0_0.index t (1 : Fin 3) = t.val / 7 ∧ win0_0.index t (2 : Fin 3) = 0 :=
  (by decide +kernel : ∀ t : Fin grid0.N, _)

theorem emb0 (t : Fin cfg0.N) (n : Fin 4) (r : Fin 512) (d : Fin 768) : ((cfg0.win 0).blk t).view.emb (ix3 n r d) = ix3 n (tt t r) d := by
  obtain ⟨h0, h1, h2⟩ := idx0 t
  funext a
  apply Fin.ext
  match a with
  | ⟨0, _⟩ => show win0_0.index t (0 : Fin 3) * 4 + 1 * n.val = _; rw [h0]; simp only [tt, kk, Fin.val_succ, ix3]; omega
  | ⟨1, _⟩ => show win0_0.index t (1 : Fin 3) * 512 + 1 * r.val = _; rw [h1]; simp only [tt, kk, Fin.val_succ, ix3]; omega
  | ⟨2, _⟩ => show win0_0.index t (2 : Fin 3) * 768 + 1 * d.val = _; rw [h2]; simp only [tt, kk, Fin.val_succ, ix3]; omega

theorem blk0 (t : Fin cfg0.N) (n : Fin 4) (r : Fin 512) (d : Fin 768) : iblk m c 0 t (ix3 n r d) = toks m c (tt t r) n d := by
  show V m c (Pipeline.arrRef spec0 0) (((cfg0.win 0).blk t).view.emb (ix3 n r d)) = _
  rw [emb0]
  exact (congrFun (V_v0 m c) (ix3 n (tt t r) d)).trans (rows0 _ n (tt t r) d)

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (n : Fin 4) (d : Fin 768) (q : Fin 168) : ((cfg0.win 1).blk t).view.emb (ix3 n d q) = ix3 n d q := by
  obtain ⟨h0, h1, h2⟩ := idx1 t
  funext a
  apply Fin.ext
  match a with
  | ⟨0, _⟩ => show win0_1.index t (0 : Fin 3) * 4 + 1 * n.val = _; rw [h0]; simp only [tt, kk, Fin.val_succ, ix3]; omega
  | ⟨1, _⟩ => show win0_1.index t (1 : Fin 3) * 768 + 1 * d.val = _; rw [h1]; simp only [tt, kk, Fin.val_succ, ix3]; omega
  | ⟨2, _⟩ => show win0_1.index t (2 : Fin 3) * 168 + 1 * q.val = _; rw [h2]; simp only [tt, kk, Fin.val_succ, ix3]; omega

theorem idx2 : ∀ t : Fin cfg0.N, win0_2.index t (0 : Fin 2) = 0 ∧ win0_2.index t (1 : Fin 2) = 0 :=
  (by decide +kernel : ∀ t : Fin grid0.N, _)

theorem emb2 (t : Fin cfg0.N) (z : Fin 1) (q : Fin 336) : ((cfg0.win 2).blk t).view.emb (ix2 z q) = ix2 z q := by
  obtain ⟨h0, h1⟩ := idx2 t
  funext a
  apply Fin.ext
  match a with
  | ⟨0, _⟩ => show win0_2.index t (0 : Fin 2) * 1 + 1 * z.val = _; rw [h0]; simp only [tt, kk, Fin.val_succ, ix2]; omega
  | ⟨1, _⟩ => show win0_2.index t (1 : Fin 2) * 336 + 1 * q.val = _; rw [h1]; simp only [tt, kk, Fin.val_succ, ix2]; omega

theorem idx9 : ∀ t : Fin cfg0.N, win0_9.index t (0 : Fin 2) = 0 ∧ win0_9.index t (1 : Fin 2) = 0 :=
  (by decide +kernel : ∀ t : Fin grid0.N, _)

theorem emb9 (t : Fin cfg0.N) (e : Fin 8) (d : Fin 768) : ((cfg0.win 9).blk t).view.emb (ix2 e d) = ix2 e d := by
  obtain ⟨h0, h1⟩ := idx9 t
  funext a
  apply Fin.ext
  match a with
  | ⟨0, _⟩ => show win0_9.index t (0 : Fin 2) * 8 + 1 * e.val = _; rw [h0]; simp only [tt, kk, Fin.val_succ, ix2]; omega
  | ⟨1, _⟩ => show win0_9.index t (1 : Fin 2) * 768 + 1 * d.val = _; rw [h1]; simp only [tt, kk, Fin.val_succ, ix2]; omega

theorem blk1 (t : Fin cfg0.N) (n : Fin 4) (d : Fin 768) (q : Fin 168) : iblk m c 1 t (ix3 n d q) = wAll (m ((c : Thread nD τ).loc main_arg1)) (m ((c : Thread nD τ).loc main_arg2)) (m ((c : Thread nD τ).loc main_arg3)) (m ((c : Thread nD τ).loc main_arg4)) (ix3 n d q) := by
  show V m c (Pipeline.arrRef spec0 1) (((cfg0.win 1).blk t).view.emb (ix3 n d q)) = _
  rw [emb1]
  exact congrFun (V_v44 m c) (ix3 n d q)

theorem blk2 (t : Fin cfg0.N) (z : Fin 1) (q : Fin 336) : iblk m c 2 t (ix2 z q) = sAll (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix1 q) := by
  show V m c (Pipeline.arrRef spec0 2) (((cfg0.win 2).blk t).view.emb (ix2 z q)) = _
  rw [emb2]
  refine (congrFun (V_v37 m c) (ix2 z q)).trans ?_
  pointwise

theorem blk9 (t : Fin cfg0.N) (e : Fin 8) (d : Fin 768) : iblk m c 9 t (ix2 e d) = (pars m c).rw e d := by
  show V m c (Pipeline.arrRef spec0 9) (((cfg0.win 9).blk t).view.emb (ix2 e d)) = _
  rw [emb9]
  exact congrFun (V_main_arg17 m c) (ix2 e d)

theorem idx3 : ∀ t : Fin cfg0.N, win0_3.index t (0 : Fin 3) = t.val % 7 + 1 ∧ win0_3.index t (1 : Fin 3) = 0 ∧ win0_3.index t (2 : Fin 3) = 0 :=
  (by decide +kernel : ∀ t : Fin grid0.N, _)

theorem emb3 (t : Fin cfg0.N) (z : Fin 1) (u : Fin 1) (v : Fin 768) : ((cfg0.win 3).blk t).view.emb (ix3 z u v) = ix3 (kk t).succ u v := by
  obtain ⟨h0, h1, h2⟩ := idx3 t
  funext a
  apply Fin.ext
  match a with
  | ⟨0, _⟩ => show win0_3.index t (0 : Fin 3) * 1 + 1 * z.val = _; rw [h0]; simp only [tt, kk, Fin.val_succ, ix3]; omega
  | ⟨1, _⟩ => show win0_3.index t (1 : Fin 3) * 1 + 1 * u.val = _; rw [h1]; simp only [tt, kk, Fin.val_succ, ix3]; omega
  | ⟨2, _⟩ => show win0_3.index t (2 : Fin 3) * 768 + 1 * v.val = _; rw [h2]; simp only [tt, kk, Fin.val_succ, ix3]; omega

theorem blk3 (t : Fin cfg0.N) (z : Fin 1) (u : Fin 1) (v : Fin 768) : iblk m c 3 t (ix3 z u v) = (pars m c).nw (kk t) v := by
  show V m c (Pipeline.arrRef spec0 3) (((cfg0.win 3).blk t).view.emb (ix3 z u v)) = _
  rw [emb3]
  refine (congrFun (V_v38 m c) (ix3 (kk t).succ u v)).trans ?_
  pointwise [pars, par]

theorem idx4 : ∀ t : Fin cfg0.N, win0_4.index t (0 : Fin 3) = t.val % 7 + 1 ∧ win0_4.index t (1 : Fin 3) = 0 ∧ win0_4.index t (2 : Fin 3) = 0 :=
  (by decide +kernel : ∀ t : Fin grid0.N, _)

theorem emb4 (t : Fin cfg0.N) (z : Fin 1) (u : Fin 768) (v : Fin 768) : ((cfg0.win 4).blk t).view.emb (ix3 z u v) = ix3 (kk t).succ u v := by
  obtain ⟨h0, h1, h2⟩ := idx4 t
  funext a
  apply Fin.ext
  match a with
  | ⟨0, _⟩ => show win0_4.index t (0 : Fin 3) * 1 + 1 * z.val = _; rw [h0]; simp only [tt, kk, Fin.val_succ, ix3]; omega
  | ⟨1, _⟩ => show win0_4.index t (1 : Fin 3) * 768 + 1 * u.val = _; rw [h1]; simp only [tt, kk, Fin.val_succ, ix3]; omega
  | ⟨2, _⟩ => show win0_4.index t (2 : Fin 3) * 768 + 1 * v.val = _; rw [h2]; simp only [tt, kk, Fin.val_succ, ix3]; omega

theorem blk4 (t : Fin cfg0.N) (z : Fin 1) (u : Fin 768) (v : Fin 768) : iblk m c 4 t (ix3 z u v) = (pars m c).wd (kk t) u v := by
  show V m c (Pipeline.arrRef spec0 4) (((cfg0.win 4).blk t).view.emb (ix3 z u v)) = _
  rw [emb4]
  exact congrFun (V_v39 m c) (ix3 (kk t).succ u v)

theorem idx5 : ∀ t : Fin cfg0.N, win0_5.index t (0 : Fin 3) = t.val % 7 + 1 ∧ win0_5.index t (1 : Fin 3) = 0 ∧ win0_5.index t (2 : Fin 3) = 0 :=
  (by decide +kernel : ∀ t : Fin grid0.N, _)

theorem emb5 (t : Fin cfg0.N) (z : Fin 1) (u : Fin 768) (v : Fin 768) : ((cfg0.win 5).blk t).view.emb (ix3 z u v) = ix3 (kk t).succ u v := by
  obtain ⟨h0, h1, h2⟩ := idx5 t
  funext a
  apply Fin.ext
  match a with
  | ⟨0, _⟩ => show win0_5.index t (0 : Fin 3) * 1 + 1 * z.val = _; rw [h0]; simp only [tt, kk, Fin.val_succ, ix3]; omega
  | ⟨1, _⟩ => show win0_5.index t (1 : Fin 3) * 768 + 1 * u.val = _; rw [h1]; simp only [tt, kk, Fin.val_succ, ix3]; omega
  | ⟨2, _⟩ => show win0_5.index t (2 : Fin 3) * 768 + 1 * v.val = _; rw [h2]; simp only [tt, kk, Fin.val_succ, ix3]; omega

theorem blk5 (t : Fin cfg0.N) (z : Fin 1) (u : Fin 768) (v : Fin 768) : iblk m c 5 t (ix3 z u v) = (pars m c).wu (kk t) u v := by
  show V m c (Pipeline.arrRef spec0 5) (((cfg0.win 5).blk t).view.emb (ix3 z u v)) = _
  rw [emb5]
  exact congrFun (V_v40 m c) (ix3 (kk t).succ u v)

theorem idx6 : ∀ t : Fin cfg0.N, win0_6.index t (0 : Fin 3) = t.val % 7 + 1 ∧ win0_6.index t (1 : Fin 3) = 0 ∧ win0_6.index t (2 : Fin 3) = 0 :=
  (by decide +kernel : ∀ t : Fin grid0.N, _)

theorem emb6 (t : Fin cfg0.N) (z : Fin 1) (u : Fin 1242) (v : Fin 768) : ((cfg0.win 6).blk t).view.emb (ix3 z u v) = ix3 (kk t).succ u v := by
  obtain ⟨h0, h1, h2⟩ := idx6 t
  funext a
  apply Fin.ext
  match a with
  | ⟨0, _⟩ => show win0_6.index t (0 : Fin 3) * 1 + 1 * z.val = _; rw [h0]; simp only [tt, kk, Fin.val_succ, ix3]; omega
  | ⟨1, _⟩ => show win0_6.index t (1 : Fin 3) * 1242 + 1 * u.val = _; rw [h1]; simp only [tt, kk, Fin.val_succ, ix3]; omega
  | ⟨2, _⟩ => show win0_6.index t (2 : Fin 3) * 768 + 1 * v.val = _; rw [h2]; simp only [tt, kk, Fin.val_succ, ix3]; omega

theorem blk6 (t : Fin cfg0.N) (z : Fin 1) (u : Fin 1242) (v : Fin 768) : iblk m c 6 t (ix3 z u v) = (pars m c).wg (kk t) u v := by
  show V m c (Pipeline.arrRef spec0 6) (((cfg0.win 6).blk t).view.emb (ix3 z u v)) = _
  rw [emb6]
  exact congrFun (V_v41 m c) (ix3 (kk t).succ u v)

theorem idx7 : ∀ t : Fin cfg0.N, win0_7.index t (0 : Fin 3) = t.val % 7 + 1 ∧ win0_7.index t (1 : Fin 3) = 0 ∧ win0_7.index t (2 : Fin 3) = 0 :=
  (by decide +kernel : ∀ t : Fin grid0.N, _)

theorem emb7 (t : Fin cfg0.N) (z : Fin 1) (u : Fin 1242) (v : Fin 768) : ((cfg0.win 7).blk t).view.emb (ix3 z u v) = ix3 (kk t).succ u v := by
  obtain ⟨h0, h1, h2⟩ := idx7 t
  funext a
  apply Fin.ext
  match a with
  | ⟨0, _⟩ => show win0_7.index t (0 : Fin 3) * 1 + 1 * z.val = _; rw [h0]; simp only [tt, kk, Fin.val_succ, ix3]; omega
  | ⟨1, _⟩ => show win0_7.index t (1 : Fin 3) * 1242 + 1 * u.val = _; rw [h1]; simp only [tt, kk, Fin.val_succ, ix3]; omega
  | ⟨2, _⟩ => show win0_7.index t (2 : Fin 3) * 768 + 1 * v.val = _; rw [h2]; simp only [tt, kk, Fin.val_succ, ix3]; omega

theorem blk7 (t : Fin cfg0.N) (z : Fin 1) (u : Fin 1242) (v : Fin 768) : iblk m c 7 t (ix3 z u v) = (pars m c).wup (kk t) u v := by
  show V m c (Pipeline.arrRef spec0 7) (((cfg0.win 7).blk t).view.emb (ix3 z u v)) = _
  rw [emb7]
  exact congrFun (V_v42 m c) (ix3 (kk t).succ u v)

theorem idx8 : ∀ t : Fin cfg0.N, win0_8.index t (0 : Fin 3) = t.val % 7 + 1 ∧ win0_8.index t (1 : Fin 3) = 0 ∧ win0_8.index t (2 : Fin 3) = 0 :=
  (by decide +kernel : ∀ t : Fin grid0.N, _)

theorem emb8 (t : Fin cfg0.N) (z : Fin 1) (u : Fin 768) (v : Fin 1242) : ((cfg0.win 8).blk t).view.emb (ix3 z u v) = ix3 (kk t).succ u v := by
  obtain ⟨h0, h1, h2⟩ := idx8 t
  funext a
  apply Fin.ext
  match a with
  | ⟨0, _⟩ => show win0_8.index t (0 : Fin 3) * 1 + 1 * z.val = _; rw [h0]; simp only [tt, kk, Fin.val_succ, ix3]; omega
  | ⟨1, _⟩ => show win0_8.index t (1 : Fin 3) * 768 + 1 * u.val = _; rw [h1]; simp only [tt, kk, Fin.val_succ, ix3]; omega
  | ⟨2, _⟩ => show win0_8.index t (2 : Fin 3) * 1242 + 1 * v.val = _; rw [h2]; simp only [tt, kk, Fin.val_succ, ix3]; omega

theorem blk8 (t : Fin cfg0.N) (z : Fin 1) (u : Fin 768) (v : Fin 1242) : iblk m c 8 t (ix3 z u v) = (pars m c).wdn (kk t) u v := by
  show V m c (Pipeline.arrRef spec0 8) (((cfg0.win 8).blk t).view.emb (ix3 z u v)) = _
  rw [emb8]
  exact congrFun (V_v43 m c) (ix3 (kk t).succ u v)

/-- The columns of the pre weights. -/
theorem col_pre (t : Fin cfg0.N) (k : Fin 7) (e : Fin 4) (n : Fin 4) (d : Fin 768) :
    iblk m c 1 t (ix3 n d ⟨(c28 k e).val, by omega⟩) = (pars m c).wpre k e n d := by
  rw [blk1, wAll_A, wA_at _ _ n d k e (c28 k e) rfl]
  rfl

/-- The columns of the post weights. -/
theorem col_post (t : Fin cfg0.N) (k : Fin 7) (e : Fin 4) (n : Fin 4) (d : Fin 768) :
    iblk m c 1 t (ix3 n d ⟨28 + (c28 k e).val, by omega⟩) = (pars m c).wpost k e n d := by
  rw [blk1, wAll_B, wB_at _ _ n d k e (c28 k e) rfl]
  rfl

theorem col_res (t : Fin cfg0.N) (k : Fin 7) (i j : Fin 4) (n : Fin 4) (d : Fin 768) :
    iblk m c 1 t (ix3 n d ⟨56 + (c112 k i j).val, by omega⟩) = (pars m c).wres k i j n d := by
  rw [blk1, wAll_C, wC_at _ _ n d k (fl4 i j) (c112 k i j) (by simp only [c112, fl4]; omega)]
  rfl

theorem sc_apre (t : Fin cfg0.N) (k : Fin 7) (e : Fin 4) :
    iblk m c 2 t (ix2 0 ⟨(c28 k e).val, by omega⟩) = (pars m c).apre k := by
  rw [blk2, sAll_0 _ _ _ _ _ _ k e (c28 k e) rfl]
  rfl

theorem sc_bpre (t : Fin cfg0.N) (k : Fin 7) (e : Fin 4) :
    iblk m c 2 t (ix2 0 ⟨28 + (c28 k e).val, by omega⟩) = (pars m c).bpre k e := by
  rw [blk2, sAll_1 _ _ _ _ _ _ k e (c28 k e) rfl]
  rfl

theorem sc_apost (t : Fin cfg0.N) (k : Fin 7) (e : Fin 4) :
    iblk m c 2 t (ix2 0 ⟨56 + (c28 k e).val, by omega⟩) = (pars m c).apost k := by
  rw [blk2, sAll_2 _ _ _ _ _ _ k e (c28 k e) rfl]
  rfl

theorem sc_bpost (t : Fin cfg0.N) (k : Fin 7) (e : Fin 4) :
    iblk m c 2 t (ix2 0 ⟨84 + (c28 k e).val, by omega⟩) = (pars m c).bpost k e := by
  rw [blk2, sAll_3 _ _ _ _ _ _ k e (c28 k e) rfl]
  rfl

theorem sc_ares (t : Fin cfg0.N) (k : Fin 7) (i j : Fin 4) :
    iblk m c 2 t (ix2 0 ⟨112 + (c112 k i j).val, by omega⟩) = (pars m c).ares k := by
  rw [blk2, sAll_4 _ _ _ _ _ _ k (fl4 i j) (c112 k i j) (by simp only [c112, fl4]; omega)]
  rfl

theorem sc_bres (t : Fin cfg0.N) (k : Fin 7) (i j : Fin 4) :
    iblk m c 2 t (ix2 0 ⟨224 + (c112 k i j).val, by omega⟩) = (pars m c).bres k i j := by
  rw [blk2, sAll_5 _ _ _ _ _ _ k i j (c112 k i j) rfl]
  rfl

end Cert.KernelIdeal.Hand
-- ==== Proof.KerSpec.lean ====
/- The body's values at a grid point, token by token, over the parameters. -/
module

public import proofs.«01_k».proof.Proof.KerB
public import proofs.«01_k».proof.Proof.Blocks

@[expose] public section

noncomputable section

namespace Cert.KernelIdeal.Hand

open Cert.KernelIdeal Cert.KernelIdeal.Gen Cert.Spec
open Idealize.ShloMosaic Idealize.ShloMosaic.TcCoe

variable (m : (ℓ : Loc nD τ sig) → Buf (Elt Ideal) ℓ) (c : Dev nD)

/-- The streams of row `r`. -/
theorem row_toks (t : Fin cfg0.N) (r : Fin 512) : (fun n d => iblk m c 0 t (ix3 n r d)) = toks m c (tt t r) := by
  funext n d
  exact blk0 m c t n r d

theorem router_rows (t : Fin cfg0.N) : (fun e d => iblk m c 9 t (ix2 e d)) = (pars m c).rw := by
  funext e d
  exact blk9 m c t e d

theorem zA (t : Fin cfg0.N) (r : Fin 512) (k : Fin 7) (n : Fin 4) :
    bodyRunA.sl.v332 (F := Ideal) c (ms0_0 t) (hs0_0 t) (ms0_1 t) (hs0_1 t) (ms0_2 t) (hs0_2 t) (iblk m c 0 t) (iblk m c 1 t) (iblk m c 2 t) (ix2 r (c28 k n)) = pre (pars m c) (toks m c (tt t r)) k n := by
  refine (k332 c (ms0_0 t) (hs0_0 t) (ms0_1 t) (hs0_1 t) (ms0_2 t) (hs0_2 t) (iblk m c 0 t) (iblk m c 1 t) (iblk m c 2 t) r (c28 k n)).trans ?_
  have h1 : (fun n' d => iblk m c 1 t (ix3 n' d ⟨(c28 k n).val, by omega⟩)) = (pars m c).wpre k n := by
    funext n' d
    exact col_pre m c t k n n' d
  unfold pre
  rw [← sc_apre m c t k n, ← sc_bpre m c t k n, ← row_toks, ← h1]
  exact congrArg (fun u => Spec.sig (u + iblk m c 2 t (ix2 0 ⟨28 + (c28 k n).val, by omega⟩))) (mul_comm _ _)

theorem gA (t : Fin cfg0.N) (r : Fin 512) (e : Fin 8) :
    bodyRunA.sl.v256 (F := Ideal) c (ms0_0 t) (hs0_0 t) (ms0_9 t) (hs0_9 t) (iblk m c 0 t) (iblk m c 9 t) (ix2 r e) = gates (pars m c) (toks m c (tt t r)) e := by
  refine (k256 c (ms0_0 t) (hs0_0 t) (ms0_9 t) (hs0_9 t) (iblk m c 0 t) (iblk m c 9 t) r e).trans ?_
  unfold gates probs
  rw [← row_toks, ← router_rows m c t]

theorem lA (t : Fin cfg0.N) (r : Fin 512) :
    Gen.k0_pay23 (F := Ideal) (bodyRunA.sl.v256 (F := Ideal) c (ms0_0 t) (hs0_0 t) (ms0_9 t) (hs0_9 t) (iblk m c 0 t) (iblk m c 9 t)) (bodyRunA.sl.v261 (F := Ideal) c (ms0_0 t) (hs0_0 t) (ms0_9 t) (hs0_9 t) (iblk m c 0 t) (iblk m c 9 t)) (ix2 r 0)
      = lp (probs (pars m c) (toks m c (tt t r))) (gates (pars m c) (toks m c (tt t r))) := by
  refine (k261 c (ms0_0 t) (hs0_0 t) (ms0_9 t) (hs0_9 t) (iblk m c 0 t) (iblk m c 9 t) r).trans ?_
  unfold gates probs
  rw [← row_toks, ← router_rows m c t]

theorem pA (t : Fin cfg0.N) (r : Fin 512) (k : Fin 7) (n : Fin 4) :
    bodyRunA.sl.v373 (F := Ideal) c (ms0_0 t) (hs0_0 t) (ms0_1 t) (hs0_1 t) (ms0_2 t) (hs0_2 t) (ms0_9 t) (hs0_9 t) (iblk m c 0 t) (iblk m c 1 t) (iblk m c 2 t) (iblk m c 9 t) (ix2 r (c28 k n))
      = gates (pars m c) (toks m c (tt t r)) k.succ * Spec.post (pars m c) (toks m c (tt t r)) k n := by
  refine (k373 c (ms0_0 t) (hs0_0 t) (ms0_1 t) (hs0_1 t) (ms0_2 t) (hs0_2 t) (ms0_9 t) (hs0_9 t) (iblk m c 0 t) (iblk m c 1 t) (iblk m c 2 t) (iblk m c 9 t) r k n).trans ?_
  have h1 : (fun n' d => iblk m c 1 t (ix3 n' d ⟨28 + (c28 k n).val, by omega⟩)) = (pars m c).wpost k n := by
    funext n' d
    exact col_post m c t k n n' d
  unfold gates probs Spec.post
  rw [← sc_apost m c t k n, ← sc_bpost m c t k n, ← row_toks, ← h1, ← router_rows m c t]
  exact congrArg (fun u => gate (prob (logit (fun n d => iblk m c 0 t (ix3 n r d)) (fun e d => iblk m c 9 t (ix2 e d)))) k.succ
    * (2 * Spec.sig (u + iblk m c 2 t (ix2 0 ⟨84 + (c28 k n).val, by omega⟩)))) (mul_comm _ _)

theorem eA (t : Fin cfg0.N) (r : Fin 512) (k : Fin 7) (i j : Fin 4) :
    bodyRunA.sl.v379 (F := Ideal) c (ms0_0 t) (hs0_0 t) (ms0_1 t) (hs0_1 t) (ms0_2 t) (hs0_2 t) (iblk m c 0 t) (iblk m c 1 t) (iblk m c 2 t) (ix2 r (c112 k i j)) = res (pars m c) (toks m c (tt t r)) k i j := by
  refine (k379 c (ms0_0 t) (hs0_0 t) (ms0_1 t) (hs0_1 t) (ms0_2 t) (hs0_2 t) (iblk m c 0 t) (iblk m c 1 t) (iblk m c 2 t) r (c112 k i j)).trans ?_
  have h1 : (fun n' d => iblk m c 1 t (ix3 n' d ⟨56 + (c112 k i j).val, by omega⟩)) = (pars m c).wres k i j := by
    funext n' d
    exact col_res m c t k i j n' d
  unfold res
  rw [← sc_ares m c t k i j, ← sc_bres m c t k i j, ← row_toks, ← h1]
  exact congrArg (fun u => Ideal.exp (u + iblk m c 2 t (ix2 0 ⟨224 + (c112 k i j).val, by omega⟩))) (mul_comm _ _)

theorem aA (t : Fin cfg0.N) (r : Fin 512) (i j : Fin 4) :
    bodyRunA.sl.v596 (F := Ideal) c (ms0_0 t) (hs0_0 t) (ms0_1 t) (hs0_1 t) (ms0_2 t) (hs0_2 t) (ms0_9 t) (hs0_9 t) (iblk m c 0 t) (iblk m c 1 t) (iblk m c 2 t) (iblk m c 9 t) (ix2 r (fl4 i j)) = amix (pars m c) (toks m c (tt t r)) i j := by
  refine (k596 c (ms0_0 t) (hs0_0 t) (ms0_1 t) (hs0_1 t) (ms0_2 t) (hs0_2 t) (ms0_9 t) (hs0_9 t) (iblk m c 0 t) (iblk m c 1 t) (iblk m c 2 t) (iblk m c 9 t) r i j).trans ?_
  unfold amix gates probs mix
  rw [← row_toks, ← router_rows m c t]
  refine Finset.sum_congr rfl fun k _ => ?_
  have h1 : (fun i j => bodyRunA.sl.v379 (F := Ideal) c (ms0_0 t) (hs0_0 t) (ms0_1 t) (hs0_1 t) (ms0_2 t) (hs0_2 t) (iblk m c 0 t) (iblk m c 1 t) (iblk m c 2 t) (ix2 r (c112 k i j))) = res (pars m c) (fun n d => iblk m c 0 t (ix3 n r d)) k := by
    funext i j
    rw [row_toks]
    exact eA m c t r k i j
  rw [h1]

/-- An expert's output at a grid point. -/
theorem expo_eq (t : Fin cfg0.N) (r : Fin 512) (d : Fin 768) (w : Fin 4 → EReal)
    (hw : w = pre (pars m c) (toks m c (tt t r)) (kk t)) :
    expo w (fun n d => iblk m c 0 t (ix3 n r d)) (iblk m c 3 t) (iblk m c 4 t) (iblk m c 5 t) (iblk m c 6 t) (iblk m c 7 t) (iblk m c 8 t) d = oute (pars m c) (toks m c (tt t r)) (kk t) d := by
  have h3 : (fun d => iblk m c 3 t (ix3 0 0 d)) = (pars m c).nw (kk t) := funext fun d => blk3 m c t 0 0 d
  have h4 : (fun o i => iblk m c 4 t (ix3 0 o i)) = (pars m c).wd (kk t) := funext fun o => funext fun i => blk4 m c t 0 o i
  have h5 : (fun o i => iblk m c 5 t (ix3 0 o i)) = (pars m c).wu (kk t) := funext fun o => funext fun i => blk5 m c t 0 o i
  have h6 : (fun o i => iblk m c 6 t (ix3 0 o i)) = (pars m c).wg (kk t) := funext fun o => funext fun i => blk6 m c t 0 o i
  have h7 : (fun o i => iblk m c 7 t (ix3 0 o i)) = (pars m c).wup (kk t) := funext fun o => funext fun i => blk7 m c t 0 o i
  have h8 : (fun o i => iblk m c 8 t (ix3 0 o i)) = (pars m c).wdn (kk t) := funext fun o => funext fun i => blk8 m c t 0 o i
  unfold expo oute he
  rw [row_toks, hw, ← h3, ← h4, ← h5, ← h6, ← h7, ← h8]

end Cert.KernelIdeal.Hand
-- ==== Proof.KerRun.lean ====
/- What the body leaves at each grid point. -/
module

public import proofs.«01_k».proof.Proof.KerSpec
public import proofs.«01_k».proof.Proof.Run.Frame

@[expose] public section

noncomputable section

namespace Cert.KernelIdeal.Hand

open Cert.KernelIdeal Cert.KernelIdeal.Gen Cert.Spec
open Idealize.ShloMosaic Idealize.ShloMosaic.TcCoe

variable (m : (ℓ : Loc nD τ sig) → Buf (Elt Ideal) ℓ) (c : Dev nD)

theorem coord1 : ∀ t : Fin cfg0.N, (grid0.coords t 1).val = t.val % 7 := (by decide +kernel : ∀ t : Fin grid0.N, _)

/-- The result as far as expert `k`. -/
def part (P : Par) (s : Tok) (k : Fin 7) (n : Fin 4) (d : Fin 768) : EReal :=
  (∑ j, amix P s n j * s j d) + ∑ k' ∈ Finset.univ.filter (· ≤ k), gates P s k'.succ * Spec.post P s k' n * oute P s k' d

theorem part_zero (P : Par) (s : Tok) (n : Fin 4) (d : Fin 768) :
    part P s 0 n d = (∑ j, amix P s n j * s j d) + gates P s (0 : Fin 7).succ * Spec.post P s 0 n * oute P s 0 d := by
  have h : (Finset.univ.filter (· ≤ (0 : Fin 7))) = {0} := by decide
  unfold part
  rw [h, Finset.sum_singleton]

theorem part_succ (P : Par) (s : Tok) (k k' : Fin 7) (h : k'.val = k.val + 1) (n : Fin 4) (d : Fin 768) :
    part P s k' n d = part P s k n d + gates P s k'.succ * Spec.post P s k' n * oute P s k' d := by
  have h : (Finset.univ.filter (· ≤ k')) = insert k' (Finset.univ.filter (· ≤ k)) := by
    ext a
    simp only [Finset.mem_filter, Finset.mem_univ, true_and, Finset.mem_insert, Fin.le_def, Fin.ext_iff]
    omega
  have hn : k' ∉ (Finset.univ.filter (· ≤ k)) := by
    simp only [Finset.mem_filter, Finset.mem_univ, true_and, Fin.le_def]
    omega
  unfold part
  rw [h, Finset.sum_insert hn, add_assoc, add_comm (gates P s k'.succ * Spec.post P s k' n * oute P s k' d)]

theorem part_six (P : Par) (s : Tok) (n : Fin 4) (d : Fin 768) : part P s 6 n d = acc P s n d := by
  have h : (Finset.univ.filter (· ≤ (6 : Fin 7))) = Finset.univ := by decide
  unfold part acc
  rw [h]

/-! ## The first point of a tile -/

theorem zero2 : (![0, 0] : Fin 2 → ℕ) = fun _ => 0 := by decide

theorem listA_10 (t : Fin cfg0.N) (h0 : t.val % 7 = 0) :
    (runA (F := Ideal) m c t h0).1 = ((⟨Rect.unit ![3, 0, 0] S1x512x768.size Gen.inb_S4x512x768_S1x512x768_3_0_0, Gen.k0_pay1 (bodyRunA.sl.r_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_1 scM0_2 (iblk m c 0 t) (iblk m c 1 t) (iblk m c 2 t) (iblk m c 3 t) (iblk m c 4 t) (iblk m c 5 t) (iblk m c 6 t) (iblk m c 7 t) (iblk m c 8 t) (iblk m c 9 t))⟩ : View.Piece (Elt Ideal) S4x512x768 .f32) :: bodyRunA.sl.H10_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_1 scM0_2 (iblk m c 0 t) (iblk m c 1 t) (iblk m c 2 t) (iblk m c 3 t) (iblk m c 4 t) (iblk m c 5 t) (iblk m c 6 t) (iblk m c 7 t) (iblk m c 8 t) (iblk m c 9 t)) := rfl

theorem listA_11 (t : Fin cfg0.N) (h0 : t.val % 7 = 0) :
    (runA (F := Ideal) m c t h0).2.1 = [(⟨Rect.unit ![0, 0] S512x8.size Gen.inb_S512x8_S512x8_0_0, bodyRunA.sl.v256 (F := Ideal) c (ms0_0 t) (hs0_0 t) (ms0_9 t) (hs0_9 t) (iblk m c 0 t) (iblk m c 9 t)⟩ : View.Piece (Elt Ideal) S512x8 .f32)] := rfl

theorem listA_12 (t : Fin cfg0.N) (h0 : t.val % 7 = 0) :
    (runA (F := Ideal) m c t h0).2.2.1 = [(⟨Rect.unit ![0, 0] S512x1.size Gen.inb_S512x1_S512x1_0_0, Gen.k0_pay23 (F := Ideal) (bodyRunA.sl.v256 (F := Ideal) c (ms0_0 t) (hs0_0 t) (ms0_9 t) (hs0_9 t) (iblk m c 0 t) (iblk m c 9 t)) (bodyRunA.sl.v261 (F := Ideal) c (ms0_0 t) (hs0_0 t) (ms0_9 t) (hs0_9 t) (iblk m c 0 t) (iblk m c 9 t))⟩ : View.Piece (Elt Ideal) S512x1 .f32)] := rfl

theorem listA_S1 (t : Fin cfg0.N) (h0 : t.val % 7 = 0) :
    (runA (F := Ideal) m c t h0).2.2.2.1 = bodyRunA.sl.HS1_7 (F := Ideal) c (ms0_0 t) (hs0_0 t) (ms0_1 t) (hs0_1 t) (ms0_2 t) (hs0_2 t) (iblk m c 0 t) (iblk m c 1 t) (iblk m c 2 t) := rfl

theorem listA_S2 (t : Fin cfg0.N) (h0 : t.val % 7 = 0) :
    (runA (F := Ideal) m c t h0).2.2.2.2.1 = bodyRunA.sl.HS2_7 (F := Ideal) c (ms0_0 t) (hs0_0 t) (ms0_1 t) (hs0_1 t) (ms0_2 t) (hs0_2 t) (ms0_9 t) (hs0_9 t) (iblk m c 0 t) (iblk m c 1 t) (iblk m c 2 t) (iblk m c 9 t) := rfl

theorem listB_10 (t : Fin cfg0.N) (h0 : ¬t.val % 7 = 0)
    (p : Vec Ideal S4x512x768 .f32 × Vec Ideal S512x8 .f32 × Vec Ideal S512x1 .f32 × Vec Ideal S7x512x4 .f32 × Vec Ideal S7x512x4 .f32) :
    (runB (F := Ideal) m c t h0 p.1 p.2.2.2.1 p.2.2.2.2).1 = ([⟨Rect.unit (s := S4x512x768) ![3, 0, 0] S1x512x768.size Gen.inb_S4x512x768_S1x512x768_3_0_0, Gen.k0_pay1 (bodyRunB.sl.r_4 (F := Ideal) c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_10 t) (hs0_10 t) scM0_1 (Memref.isWhole_whole _) scM0_2 (Memref.isWhole_whole _) (iblk m c 0 t) (iblk m c 3 t) (iblk m c 4 t) (iblk m c 5 t) (iblk m c 6 t) (iblk m c 7 t) (iblk m c 8 t) p.1 p.2.2.2.1 p.2.2.2.2)⟩, ⟨Rect.unit (s := S4x512x768) ![2, 0, 0] S1x512x768.size Gen.inb_S4x512x768_S1x512x768_2_0_0, Gen.k0_pay85 (bodyRunB.sl.r_2 (F := Ideal) c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) scM0_1 (Memref.isWhole_whole _) (iblk m c 0 t) (iblk m c 3 t) (iblk m c 4 t) (iblk m c 5 t) (iblk m c 6 t) (iblk m c 7 t) (iblk m c 8 t) p.2.2.2.1) (bodyRunB.sl.r_3 (F := Ideal) c (grid0.coords t) scM0_2 (Memref.isWhole_whole _) p.2.2.2.2) (bodyRunB.sl.v89 (F := Ideal) c (ms0_10 t) (hs0_10 t) p.1)⟩, ⟨Rect.unit (s := S4x512x768) ![1, 0, 0] S1x512x768.size Gen.inb_S4x512x768_S1x512x768_1_0_0, Gen.k0_pay84 (bodyRunB.sl.r_2 (F := Ideal) c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) scM0_1 (Memref.isWhole_whole _) (iblk m c 0 t) (iblk m c 3 t) (iblk m c 4 t) (iblk m c 5 t) (iblk m c 6 t) (iblk m c 7 t) (iblk m c 8 t) p.2.2.2.1) (bodyRunB.sl.r_3 (F := Ideal) c (grid0.coords t) scM0_2 (Memref.isWhole_whole _) p.2.2.2.2) (bodyRunB.sl.v80 (F := Ideal) c (ms0_10 t) (hs0_10 t) p.1)⟩, ⟨Rect.unit (s := S4x512x768) ![0, 0, 0] S1x512x768.size Gen.inb_S4x512x768_S1x512x768_0_0_0, Gen.k0_pay83 (bodyRunB.sl.r_2 (F := Ideal) c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) scM0_1 (Memref.isWhole_whole _) (iblk m c 0 t) (iblk m c 3 t) (iblk m c 4 t) (iblk m c 5 t) (iblk m c 6 t) (iblk m c 7 t) (iblk m c 8 t) p.2.2.2.1) (bodyRunB.sl.r_3 (F := Ideal) c (grid0.coords t) scM0_2 (Memref.isWhole_whole _) p.2.2.2.2) (View.readAt (Elt Ideal) (ms0_10 t).view (Rect.unit (s := S4x512x768) ![0, 0, 0] S1x512x768.size Gen.inb_S4x512x768_S1x512x768_0_0_0).toLoadRect ((hs0_10 t).unread p.1))⟩] : List (View.Piece (Elt Ideal) S4x512x768 .f32)) := rfl

attribute [local irreducible] runA runB

theorem leftA_10 (t : Fin cfg0.N) (h0 : t.val % 7 = 0) : (leftA m c t h0).1 = View.canon ((⟨Rect.unit ![3, 0, 0] S1x512x768.size Gen.inb_S4x512x768_S1x512x768_3_0_0, Gen.k0_pay1 (bodyRunA.sl.r_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_1 scM0_2 (iblk m c 0 t) (iblk m c 1 t) (iblk m c 2 t) (iblk m c 3 t) (iblk m c 4 t) (iblk m c 5 t) (iblk m c 6 t) (iblk m c 7 t) (iblk m c 8 t) (iblk m c 9 t))⟩ : View.Piece (Elt Ideal) S4x512x768 .f32) :: bodyRunA.sl.H10_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_1 scM0_2 (iblk m c 0 t) (iblk m c 1 t) (iblk m c 2 t) (iblk m c 3 t) (iblk m c 4 t) (iblk m c 5 t) (iblk m c 6 t) (iblk m c 7 t) (iblk m c 8 t) (iblk m c 9 t)) := by
  exact (congrArg (fun L => VO0_10.read (Elt Ideal) (VO0_10.writes (Elt Ideal) VO0_10.junk L)) (listA_10 m c t h0)).trans (View.read_writes_junk_eq_canon (Val := Elt Ideal) VO0_10 _)

theorem leftA_11 (t : Fin cfg0.N) (h0 : t.val % 7 = 0) : (leftA m c t h0).2.1
    = View.canon [(⟨Rect.unit ![0, 0] S512x8.size Gen.inb_S512x8_S512x8_0_0, bodyRunA.sl.v256 (F := Ideal) c (ms0_0 t) (hs0_0 t) (ms0_9 t) (hs0_9 t) (iblk m c 0 t) (iblk m c 9 t)⟩ : View.Piece (Elt Ideal) S512x8 .f32)] := by
  exact (congrArg (fun L => VO0_11.read (Elt Ideal) (VO0_11.writes (Elt Ideal) VO0_11.junk L)) (listA_11 m c t h0)).trans (View.read_writes_junk_eq_canon (Val := Elt Ideal) VO0_11 _)

theorem leftA_12 (t : Fin cfg0.N) (h0 : t.val % 7 = 0) : (leftA m c t h0).2.2.1
    = View.canon [(⟨Rect.unit ![0, 0] S512x1.size Gen.inb_S512x1_S512x1_0_0, Gen.k0_pay23 (F := Ideal) (bodyRunA.sl.v256 (F := Ideal) c (ms0_0 t) (hs0_0 t) (ms0_9 t) (hs0_9 t) (iblk m c 0 t) (iblk m c 9 t)) (bodyRunA.sl.v261 (F := Ideal) c (ms0_0 t) (hs0_0 t) (ms0_9 t) (hs0_9 t) (iblk m c 0 t) (iblk m c 9 t))⟩ : View.Piece (Elt Ideal) S512x1 .f32)] := by
  exact (congrArg (fun L => VO0_12.read (Elt Ideal) (VO0_12.writes (Elt Ideal) VO0_12.junk L)) (listA_12 m c t h0)).trans (View.read_writes_junk_eq_canon (Val := Elt Ideal) VO0_12 _)

theorem leftA_S1 (t : Fin cfg0.N) (h0 : t.val % 7 = 0) : (leftA m c t h0).2.2.2.1 = View.canon (bodyRunA.sl.HS1_7 (F := Ideal) c (ms0_0 t) (hs0_0 t) (ms0_1 t) (hs0_1 t) (ms0_2 t) (hs0_2 t) (iblk m c 0 t) (iblk m c 1 t) (iblk m c 2 t)) := by
  exact (congrArg (fun L => VS0_1.read (Elt Ideal) (VS0_1.writes (Elt Ideal) VS0_1.junk L)) (listA_S1 m c t h0)).trans (View.read_writes_junk_eq_canon (Val := Elt Ideal) VS0_1 _)

theorem leftA_S2 (t : Fin cfg0.N) (h0 : t.val % 7 = 0) : (leftA m c t h0).2.2.2.2 = View.canon (bodyRunA.sl.HS2_7 (F := Ideal) c (ms0_0 t) (hs0_0 t) (ms0_1 t) (hs0_1 t) (ms0_2 t) (hs0_2 t) (ms0_9 t) (hs0_9 t) (iblk m c 0 t) (iblk m c 1 t) (iblk m c 2 t) (iblk m c 9 t)) := by
  exact (congrArg (fun L => VS0_2.read (Elt Ideal) (VS0_2.writes (Elt Ideal) VS0_2.junk L)) (listA_S2 m c t h0)).trans (View.read_writes_junk_eq_canon (Val := Elt Ideal) VS0_2 _)

theorem leftB_10 (t : Fin cfg0.N) (h0 : ¬t.val % 7 = 0)
    (p : Vec Ideal S4x512x768 .f32 × Vec Ideal S512x8 .f32 × Vec Ideal S512x1 .f32 × Vec Ideal S7x512x4 .f32 × Vec Ideal S7x512x4 .f32) :
    (leftB m c t h0 p).1 = View.canon ([⟨Rect.unit (s := S4x512x768) ![3, 0, 0] S1x512x768.size Gen.inb_S4x512x768_S1x512x768_3_0_0, Gen.k0_pay1 (bodyRunB.sl.r_4 (F := Ideal) c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_10 t) (hs0_10 t) scM0_1 (Memref.isWhole_whole _) scM0_2 (Memref.isWhole_whole _) (iblk m c 0 t) (iblk m c 3 t) (iblk m c 4 t) (iblk m c 5 t) (iblk m c 6 t) (iblk m c 7 t) (iblk m c 8 t) p.1 p.2.2.2.1 p.2.2.2.2)⟩, ⟨Rect.unit (s := S4x512x768) ![2, 0, 0] S1x512x768.size Gen.inb_S4x512x768_S1x512x768_2_0_0, Gen.k0_pay85 (bodyRunB.sl.r_2 (F := Ideal) c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) scM0_1 (Memref.isWhole_whole _) (iblk m c 0 t) (iblk m c 3 t) (iblk m c 4 t) (iblk m c 5 t) (iblk m c 6 t) (iblk m c 7 t) (iblk m c 8 t) p.2.2.2.1) (bodyRunB.sl.r_3 (F := Ideal) c (grid0.coords t) scM0_2 (Memref.isWhole_whole _) p.2.2.2.2) (bodyRunB.sl.v89 (F := Ideal) c (ms0_10 t) (hs0_10 t) p.1)⟩, ⟨Rect.unit (s := S4x512x768) ![1, 0, 0] S1x512x768.size Gen.inb_S4x512x768_S1x512x768_1_0_0, Gen.k0_pay84 (bodyRunB.sl.r_2 (F := Ideal) c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) scM0_1 (Memref.isWhole_whole _) (iblk m c 0 t) (iblk m c 3 t) (iblk m c 4 t) (iblk m c 5 t) (iblk m c 6 t) (iblk m c 7 t) (iblk m c 8 t) p.2.2.2.1) (bodyRunB.sl.r_3 (F := Ideal) c (grid0.coords t) scM0_2 (Memref.isWhole_whole _) p.2.2.2.2) (bodyRunB.sl.v80 (F := Ideal) c (ms0_10 t) (hs0_10 t) p.1)⟩, ⟨Rect.unit (s := S4x512x768) ![0, 0, 0] S1x512x768.size Gen.inb_S4x512x768_S1x512x768_0_0_0, Gen.k0_pay83 (bodyRunB.sl.r_2 (F := Ideal) c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) scM0_1 (Memref.isWhole_whole _) (iblk m c 0 t) (iblk m c 3 t) (iblk m c 4 t) (iblk m c 5 t) (iblk m c 6 t) (iblk m c 7 t) (iblk m c 8 t) p.2.2.2.1) (bodyRunB.sl.r_3 (F := Ideal) c (grid0.coords t) scM0_2 (Memref.isWhole_whole _) p.2.2.2.2) (View.readAt (Elt Ideal) (ms0_10 t).view (Rect.unit (s := S4x512x768) ![0, 0, 0] S1x512x768.size Gen.inb_S4x512x768_S1x512x768_0_0_0).toLoadRect ((hs0_10 t).unread p.1))⟩] : List (View.Piece (Elt Ideal) S4x512x768 .f32)) := by
  exact (congrArg (fun L => VO0_10.read (Elt Ideal) (VO0_10.writes (Elt Ideal) VO0_10.junk L)) (listB_10 m c t h0 p)).trans (View.read_writes_junk_eq_canon (Val := Elt Ideal) VO0_10 _)
theorem A_10 (t : Fin cfg0.N) (h0 : t.val % 7 = 0) (n : Fin 4) (r : Fin 512) (d : Fin 768) :
    (leftA m c t h0).1 (ix3 n r d) = part (pars m c) (toks m c (tt t r)) (kk t) n d := by
  have hk : kk t = 0 := Fin.ext h0
  rw [leftA_10, hk, part_zero]
  refine (kO_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_1 scM0_2 (iblk m c 0 t) (iblk m c 1 t) (iblk m c 2 t) (iblk m c 3 t) (iblk m c 4 t) (iblk m c 5 t) (iblk m c 6 t) (iblk m c 7 t) (iblk m c 8 t) (iblk m c 9 t) ((coord1 t).trans h0) n r d).trans ?_
  rw [pA, hk.symm]
  refine congrArg₂ (· + ·) (Finset.sum_congr rfl fun j _ => ?_) (congrArg₂ (· * ·) rfl (expo_eq m c t r d _ ?_))
  · rw [aA, blk0]
  · funext n
    rw [zA, hk]

theorem A_11 (t : Fin cfg0.N) (h0 : t.val % 7 = 0) (r : Fin 512) (e : Fin 8) :
    (leftA m c t h0).2.1 (ix2 r e) = gates (pars m c) (toks m c (tt t r)) e := by
  rw [leftA_11]
  refine (congrFun (View.canon_unit_zero (Val := Elt Ideal) (S := S512x8) (e := .f32) zero2 _ (bodyRunA.sl.v256 (F := Ideal) c (ms0_0 t) (hs0_0 t) (ms0_9 t) (hs0_9 t) (iblk m c 0 t) (iblk m c 9 t))) (ix2 r e)).trans (gA m c t r e)

theorem A_12 (t : Fin cfg0.N) (h0 : t.val % 7 = 0) (r : Fin 512) :
    (leftA m c t h0).2.2.1 (ix2 r 0) = lp (probs (pars m c) (toks m c (tt t r))) (gates (pars m c) (toks m c (tt t r))) := by
  rw [leftA_12]
  refine (congrFun (View.canon_unit_zero (Val := Elt Ideal) (S := S512x1) (e := .f32) zero2 _ (Gen.k0_pay23 (F := Ideal) (bodyRunA.sl.v256 (F := Ideal) c (ms0_0 t) (hs0_0 t) (ms0_9 t) (hs0_9 t) (iblk m c 0 t) (iblk m c 9 t)) (bodyRunA.sl.v261 (F := Ideal) c (ms0_0 t) (hs0_0 t) (ms0_9 t) (hs0_9 t) (iblk m c 0 t) (iblk m c 9 t)))) (ix2 r 0)).trans (lA m c t r)

theorem A_S1 (t : Fin cfg0.N) (h0 : t.val % 7 = 0) (k : Fin 7) (r : Fin 512) (n : Fin 4) :
    (leftA m c t h0).2.2.2.1 (ix3 k r n) = pre (pars m c) (toks m c (tt t r)) k n := by
  rw [leftA_S1]
  exact (kS1 c (ms0_0 t) (hs0_0 t) (ms0_1 t) (hs0_1 t) (ms0_2 t) (hs0_2 t) (iblk m c 0 t) (iblk m c 1 t) (iblk m c 2 t) k r n).trans (zA m c t r k n)

theorem A_S2 (t : Fin cfg0.N) (h0 : t.val % 7 = 0) (k : Fin 7) (r : Fin 512) (n : Fin 4) :
    (leftA m c t h0).2.2.2.2 (ix3 k r n) = gates (pars m c) (toks m c (tt t r)) k.succ * Spec.post (pars m c) (toks m c (tt t r)) k n := by
  rw [leftA_S2]
  exact (kS2 c (ms0_0 t) (hs0_0 t) (ms0_1 t) (hs0_1 t) (ms0_2 t) (hs0_2 t) (ms0_9 t) (hs0_9 t) (iblk m c 0 t) (iblk m c 1 t) (iblk m c 2 t) (iblk m c 9 t) k r n).trans (pA m c t r k n)

/-! ## The other points -/

/-- What a point leaves: the result as far as its expert, the gates, the log probability, and the weights. -/
def Left (t : Fin cfg0.N) (p : Vec Ideal S4x512x768 .f32 × Vec Ideal S512x8 .f32 × Vec Ideal S512x1 .f32 × Vec Ideal S7x512x4 .f32 × Vec Ideal S7x512x4 .f32) : Prop :=
  (∀ n r d, p.1 (ix3 n r d) = part (pars m c) (toks m c (tt t r)) (kk t) n d)
  ∧ (∀ r e, p.2.1 (ix2 r e) = gates (pars m c) (toks m c (tt t r)) e)
  ∧ (∀ r, p.2.2.1 (ix2 r 0) = lp (probs (pars m c) (toks m c (tt t r))) (gates (pars m c) (toks m c (tt t r))))
  ∧ (∀ k r n, p.2.2.2.1 (ix3 k r n) = pre (pars m c) (toks m c (tt t r)) k n)
  ∧ (∀ k r n, p.2.2.2.2 (ix3 k r n) = gates (pars m c) (toks m c (tt t r)) k.succ * Spec.post (pars m c) (toks m c (tt t r)) k n)

theorem left_A (t : Fin cfg0.N) (h0 : t.val % 7 = 0) : Left m c t (leftA m c t h0) :=
  ⟨A_10 m c t h0, A_11 m c t h0, A_12 m c t h0, A_S1 m c t h0, A_S2 m c t h0⟩

theorem left_B (t t' : Fin cfg0.N) (ht : t.val = t'.val + 1) (h0 : ¬t.val % 7 = 0)
    (p : Vec Ideal S4x512x768 .f32 × Vec Ideal S512x8 .f32 × Vec Ideal S512x1 .f32 × Vec Ideal S7x512x4 .f32 × Vec Ideal S7x512x4 .f32)
    (hp : Left m c t' p) : Left m c t (leftB m c t h0 p) := by
  obtain ⟨p1, p2, p3, p4, p5⟩ := hp
  have hr : ∀ r, tt t' r = tt t r := fun r => Fin.ext (by simp only [tt]; omega)
  simp only [hr] at p1 p2 p3 p4 p5
  have hk : (kk t).val = (kk t').val + 1 := by simp only [kk]; omega
  refine ⟨fun n r d => ?_, p2, p3, p4, p5⟩
  rw [leftB_10, part_succ _ _ _ _ hk]
  refine (kO_B c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_10 t) (hs0_10 t) scM0_1 (Memref.isWhole_whole _) scM0_2 (Memref.isWhole_whole _) (iblk m c 0 t) (iblk m c 3 t) (iblk m c 4 t) (iblk m c 5 t) (iblk m c 6 t) (iblk m c 7 t) (iblk m c 8 t) p.1 p.2.2.2.1 p.2.2.2.2 (kk t) (coord1 t) n r d).trans ?_
  rw [p1, p5]
  refine congrArg₂ (· + ·) rfl (congrArg₂ (· * ·) rfl (expo_eq m c t r d _ ?_))
  funext n
  exact p4 (kk t) r n

/-- Every point leaves that. -/
theorem left_all : ∀ (k : ℕ) (hk : k < cfg0.N), Left m c ⟨k, hk⟩ (outsAt0 m c k hk) := by
  intro k
  induction k with
  | zero =>
    intro hk
    rw [outsAt0_A m c ⟨0, hk⟩ rfl]
    exact left_A m c ⟨0, hk⟩ rfl
  | succ k ih =>
    intro hk
    by_cases h0 : (k + 1) % 7 = 0
    · rw [outsAt0_A m c ⟨k + 1, hk⟩ h0]
      exact left_A m c ⟨k + 1, hk⟩ h0
    · rw [outsAt0_B m c ⟨k + 1, hk⟩ h0]
      exact left_B m c ⟨k + 1, hk⟩ ⟨k, by omega⟩ rfl h0 _ (ih _)

end Cert.KernelIdeal.Hand
-- ==== Proof.KerEnd.lean ====
/- What the kernel leaves in its results. -/
module

public import proofs.«01_k».proof.Proof.KerRun
public import proofs.«01_k».proof.Proof.Run.Launch

@[expose] public section

noncomputable section

namespace Cert.KernelIdeal.Hand

open Cert.KernelIdeal Cert.KernelIdeal.Gen Cert.Spec
open Idealize.ShloMosaic Idealize.ShloMosaic.TcCoe

variable (m : (ℓ : Loc nD τ sig) → Buf (Elt Ideal) ℓ) (ρ : Dev nD → PrngReg) (c : Dev nD)

/-- The updated streams, the gates and the log probabilities over the launched arguments. -/
def out0 : FVec Ideal S4x2048x768 .f32 := fun i => acc (pars m c) (toks m c (i 1)) (i 0) (i 2)
def out1 : FVec Ideal S2048x8 .f32 := fun i => gates (pars m c) (toks m c (i 0)) (i 1)
def out2 : FVec Ideal S2048x1 .f32 := fun i => lp (probs (pars m c) (toks m c (i 0))) (gates (pars m c) (toks m c (i 0)))

/-! ### Result 0 -/

theorem idx10 : ∀ t : Fin cfg0.N, win0_10.index t (0 : Fin 3) = 0 ∧ win0_10.index t (1 : Fin 3) = t.val / 7 ∧ win0_10.index t (2 : Fin 3) = 0 :=
  (by decide +kernel : ∀ t : Fin grid0.N, _)

theorem last10 : ∀ q : Fin 4, win0_10.flush (⟨7 * q.val + 6, lt_of_lt_of_eq (by omega) N_0.symm⟩ : Fin grid0.N) = true := by decide +kernel

theorem emb10 (t : Fin cfg0.N) (y : ((cfg0.win 10).xblock (grid0.coords t)).Idx) (z : S4x512x768.Idx) (hz : z = (cfg0.win 10).xinj (grid0.coords t) y) :
    ((cfg0.win 10).blk t).view.emb y = ix3 (z 0) (tt t (z 1)) (z 2) := by
  obtain ⟨h0, h1, h2⟩ := idx10 t
  subst hz
  funext a
  apply Fin.ext
  match a with
  | ⟨0, _⟩ => show win0_10.index t (0 : Fin 3) * 4 + 1 * (y 0).val = (y 0).val; rw [h0]; omega
  | ⟨1, _⟩ => show win0_10.index t (1 : Fin 3) * 512 + 1 * (y 1).val = t.val / 7 * 512 + (y 1).val; rw [h1]; omega
  | ⟨2, _⟩ => show win0_10.index t (2 : Fin 3) * 768 + 1 * (y 2).val = (y 2).val; rw [h2]; omega

theorem flushed10 (t : Fin cfg0.N) (hf : (cfg0.win 10).flush t = true) :
    (dats m 0 c).flushed 10 t = ((cfg0.win 10).blk t).view.read (Elt Ideal) (out0 m c) := by
  show (cfg0.win 10).cut (grid0.coords t) ((dats m 0 c).after 10 t) = _
  rw [after0_10]
  have hm : t.val % 7 = 6 := (flush0_10 t).mp hf
  have hk : kk t = 6 := Fin.ext hm
  have hl := left_all m c t.val t.isLt
  funext y
  show (outsAt0 m c t.val t.isLt).1 ((cfg0.win 10).xinj (grid0.coords t) y) = out0 m c (((cfg0.win 10).blk t).view.emb y)
  obtain ⟨z, hz⟩ : ∃ z : S4x512x768.Idx, z = (cfg0.win 10).xinj (grid0.coords t) y := ⟨_, rfl⟩
  rw [emb10 t y z hz, ← hz]
  have e : z = ix3 (z 0) (z 1) (z 2) := by
    funext a
    match a with
    | ⟨0, _⟩ => rfl
    | ⟨1, _⟩ => rfl
    | ⟨2, _⟩ => rfl
  refine (congrArg (outsAt0 m c t.val t.isLt).1 e).trans ?_
  exact (hl.1 (z 0) (z 1) (z 2)).trans ((congrArg (fun k => part (pars m c) (toks m c (tt t (z 1))) k (z 0) (z 2)) hk).trans (part_six _ _ _ _))

theorem mem10 (t : Fin cfg0.N) (i : S4x2048x768.Idx) :
    i ∈ ((cfg0.win 10).blk t).view.set ↔ ∀ a : Fin 3, win0_10.index t a * S4x512x768.size a ≤ (i a).val ∧ (i a).val < win0_10.index t a * S4x512x768.size a + S4x512x768.size a := by
  show i ∈ ((View.whole main_v45_0).slice (win0_10.rect t)).set ↔ _
  rw [View.set_slice_whole, Rect.mem_set_unit]
  exact Iff.rfl

theorem cover10 (i : S4x2048x768.Idx) : ∃ t : Fin cfg0.N, (cfg0.win 10).flush t = true ∧ i ∈ ((cfg0.win 10).blk t).view.set := by
  have hi0 : (i 0).val < 4 := (i 0).isLt
  have hi1 : (i 1).val < 2048 := (i 1).isLt
  have hi2 : (i 2).val < 768 := (i 2).isLt
  refine ⟨⟨7 * ((i 1).val / 512) + 6, lt_of_lt_of_eq (by omega) N_0.symm⟩, last10 ⟨(i 1).val / 512, by omega⟩, ?_⟩
  obtain ⟨h0, h1, h2⟩ := idx10 ⟨7 * ((i 1).val / 512) + 6, lt_of_lt_of_eq (by omega) N_0.symm⟩
  rw [mem10]
  intro a
  match a with
  | ⟨0, _⟩ => show win0_10.index _ (0 : Fin 3) * 4 ≤ (i 0).val ∧ (i 0).val < win0_10.index _ (0 : Fin 3) * 4 + 4; rw [h0]; dsimp only; omega
  | ⟨1, _⟩ => show win0_10.index _ (1 : Fin 3) * 512 ≤ (i 1).val ∧ (i 1).val < win0_10.index _ (1 : Fin 3) * 512 + 512; rw [h1]; dsimp only; omega
  | ⟨2, _⟩ => show win0_10.index _ (2 : Fin 3) * 768 ≤ (i 2).val ∧ (i 2).val < win0_10.index _ (2 : Fin 3) * 768 + 768; rw [h2]; dsimp only; omega

theorem final10 : (dats m 0 c).arrAt 10 cfg0.N = out0 m c :=
  (dats m 0 c).arrAt_eq_of_cover 10 _ (flushed10 m c) cover10

/-! ### Result 1 -/

theorem idx11 : ∀ t : Fin cfg0.N, win0_11.index t (0 : Fin 2) = t.val / 7 ∧ win0_11.index t (1 : Fin 2) = 0 :=
  (by decide +kernel : ∀ t : Fin grid0.N, _)

theorem last11 : ∀ q : Fin 4, win0_11.flush (⟨7 * q.val + 6, lt_of_lt_of_eq (by omega) N_0.symm⟩ : Fin grid0.N) = true := by decide +kernel

theorem emb11 (t : Fin cfg0.N) (y : ((cfg0.win 11).xblock (grid0.coords t)).Idx) (z : S512x8.Idx) (hz : z = (cfg0.win 11).xinj (grid0.coords t) y) :
    ((cfg0.win 11).blk t).view.emb y = ix2 (tt t (z 0)) (z 1) := by
  obtain ⟨h0, h1⟩ := idx11 t
  subst hz
  funext a
  apply Fin.ext
  match a with
  | ⟨0, _⟩ => show win0_11.index t (0 : Fin 2) * 512 + 1 * (y 0).val = t.val / 7 * 512 + (y 0).val; rw [h0]; omega
  | ⟨1, _⟩ => show win0_11.index t (1 : Fin 2) * 8 + 1 * (y 1).val = (y 1).val; rw [h1]; omega

theorem flushed11 (t : Fin cfg0.N) (hf : (cfg0.win 11).flush t = true) :
    (dats m 0 c).flushed 11 t = ((cfg0.win 11).blk t).view.read (Elt Ideal) (out1 m c) := by
  show (cfg0.win 11).cut (grid0.coords t) ((dats m 0 c).after 11 t) = _
  rw [after0_11]
  have hm : t.val % 7 = 6 := (flush0_11 t).mp hf
  have hk : kk t = 6 := Fin.ext hm
  have hl := left_all m c t.val t.isLt
  funext y
  show (outsAt0 m c t.val t.isLt).2.1 ((cfg0.win 11).xinj (grid0.coords t) y) = out1 m c (((cfg0.win 11).blk t).view.emb y)
  obtain ⟨z, hz⟩ : ∃ z : S512x8.Idx, z = (cfg0.win 11).xinj (grid0.coords t) y := ⟨_, rfl⟩
  rw [emb11 t y z hz, ← hz]
  have e : z = ix2 (z 0) (z 1) := by
    funext a
    match a with
    | ⟨0, _⟩ => rfl
    | ⟨1, _⟩ => rfl
  refine (congrArg (outsAt0 m c t.val t.isLt).2.1 e).trans ?_
  exact hl.2.1 (z 0) (z 1)

theorem mem11 (t : Fin cfg0.N) (i : S2048x8.Idx) :
    i ∈ ((cfg0.win 11).blk t).view.set ↔ ∀ a : Fin 2, win0_11.index t a * S512x8.size a ≤ (i a).val ∧ (i a).val < win0_11.index t a * S512x8.size a + S512x8.size a := by
  show i ∈ ((View.whole main_v45_1).slice (win0_11.rect t)).set ↔ _
  rw [View.set_slice_whole, Rect.mem_set_unit]
  exact Iff.rfl

theorem cover11 (i : S2048x8.Idx) : ∃ t : Fin cfg0.N, (cfg0.win 11).flush t = true ∧ i ∈ ((cfg0.win 11).blk t).view.set := by
  have hi0 : (i 0).val < 2048 := (i 0).isLt
  have hi1 : (i 1).val < 8 := (i 1).isLt
  refine ⟨⟨7 * ((i 0).val / 512) + 6, lt_of_lt_of_eq (by omega) N_0.symm⟩, last11 ⟨(i 0).val / 512, by omega⟩, ?_⟩
  obtain ⟨h0, h1⟩ := idx11 ⟨7 * ((i 0).val / 512) + 6, lt_of_lt_of_eq (by omega) N_0.symm⟩
  rw [mem11]
  intro a
  match a with
  | ⟨0, _⟩ => show win0_11.index _ (0 : Fin 2) * 512 ≤ (i 0).val ∧ (i 0).val < win0_11.index _ (0 : Fin 2) * 512 + 512; rw [h0]; dsimp only; omega
  | ⟨1, _⟩ => show win0_11.index _ (1 : Fin 2) * 8 ≤ (i 1).val ∧ (i 1).val < win0_11.index _ (1 : Fin 2) * 8 + 8; rw [h1]; dsimp only; omega

theorem final11 : (dats m 0 c).arrAt 11 cfg0.N = out1 m c :=
  (dats m 0 c).arrAt_eq_of_cover 11 _ (flushed11 m c) cover11

/-! ### Result 2 -/

theorem idx12 : ∀ t : Fin cfg0.N, win0_12.index t (0 : Fin 2) = t.val / 7 ∧ win0_12.index t (1 : Fin 2) = 0 :=
  (by decide +kernel : ∀ t : Fin grid0.N, _)

theorem last12 : ∀ q : Fin 4, win0_12.flush (⟨7 * q.val + 6, lt_of_lt_of_eq (by omega) N_0.symm⟩ : Fin grid0.N) = true := by decide +kernel

theorem emb12 (t : Fin cfg0.N) (y : ((cfg0.win 12).xblock (grid0.coords t)).Idx) (z : S512x1.Idx) (hz : z = (cfg0.win 12).xinj (grid0.coords t) y) :
    ((cfg0.win 12).blk t).view.emb y = ix2 (tt t (z 0)) (z 1) := by
  obtain ⟨h0, h1⟩ := idx12 t
  subst hz
  funext a
  apply Fin.ext
  match a with
  | ⟨0, _⟩ => show win0_12.index t (0 : Fin 2) * 512 + 1 * (y 0).val = t.val / 7 * 512 + (y 0).val; rw [h0]; omega
  | ⟨1, _⟩ => show win0_12.index t (1 : Fin 2) * 1 + 1 * (y 1).val = (y 1).val; rw [h1]; omega

theorem flushed12 (t : Fin cfg0.N) (hf : (cfg0.win 12).flush t = true) :
    (dats m 0 c).flushed 12 t = ((cfg0.win 12).blk t).view.read (Elt Ideal) (out2 m c) := by
  show (cfg0.win 12).cut (grid0.coords t) ((dats m 0 c).after 12 t) = _
  rw [after0_12]
  have hm : t.val % 7 = 6 := (flush0_12 t).mp hf
  have hk : kk t = 6 := Fin.ext hm
  have hl := left_all m c t.val t.isLt
  funext y
  show (outsAt0 m c t.val t.isLt).2.2.1 ((cfg0.win 12).xinj (grid0.coords t) y) = out2 m c (((cfg0.win 12).blk t).view.emb y)
  obtain ⟨z, hz⟩ : ∃ z : S512x1.Idx, z = (cfg0.win 12).xinj (grid0.coords t) y := ⟨_, rfl⟩
  rw [emb12 t y z hz, ← hz]
  have e : z = ix2 (z 0) (z 1) := by
    funext a
    match a with
    | ⟨0, _⟩ => rfl
    | ⟨1, _⟩ => rfl
  refine (congrArg (outsAt0 m c t.val t.isLt).2.2.1 e).trans ?_
  exact (congrArg (fun q : Fin 1 => (outsAt0 m c t.val t.isLt).2.2.1 (ix2 (z 0) q)) (Subsingleton.elim (α := Fin 1) (z 1) 0)).trans (hl.2.2.1 (z 0))

theorem mem12 (t : Fin cfg0.N) (i : S2048x1.Idx) :
    i ∈ ((cfg0.win 12).blk t).view.set ↔ ∀ a : Fin 2, win0_12.index t a * S512x1.size a ≤ (i a).val ∧ (i a).val < win0_12.index t a * S512x1.size a + S512x1.size a := by
  show i ∈ ((View.whole main_v45_2).slice (win0_12.rect t)).set ↔ _
  rw [View.set_slice_whole, Rect.mem_set_unit]
  exact Iff.rfl

theorem cover12 (i : S2048x1.Idx) : ∃ t : Fin cfg0.N, (cfg0.win 12).flush t = true ∧ i ∈ ((cfg0.win 12).blk t).view.set := by
  have hi0 : (i 0).val < 2048 := (i 0).isLt
  have hi1 : (i 1).val < 1 := (i 1).isLt
  refine ⟨⟨7 * ((i 0).val / 512) + 6, lt_of_lt_of_eq (by omega) N_0.symm⟩, last12 ⟨(i 0).val / 512, by omega⟩, ?_⟩
  obtain ⟨h0, h1⟩ := idx12 ⟨7 * ((i 0).val / 512) + 6, lt_of_lt_of_eq (by omega) N_0.symm⟩
  rw [mem12]
  intro a
  match a with
  | ⟨0, _⟩ => show win0_12.index _ (0 : Fin 2) * 512 ≤ (i 0).val ∧ (i 0).val < win0_12.index _ (0 : Fin 2) * 512 + 512; rw [h0]; dsimp only; omega
  | ⟨1, _⟩ => show win0_12.index _ (1 : Fin 2) * 1 ≤ (i 1).val ∧ (i 1).val < win0_12.index _ (1 : Fin 2) * 1 + 1; rw [h1]; dsimp only; omega

theorem final12 : (dats m 0 c).arrAt 12 cfg0.N = out2 m c :=
  (dats m 0 c).arrAt_eq_of_cover 12 _ (flushed12 m c) cover12

/-! ### The run -/

/-- Every run ends with these results, and the arguments unchanged. -/
theorem run_value : θ_run defs (onTc (τ := τ) (main (F := Ideal))) ⟨m, fun _ => 0, ρ⟩ fun r => ∀ c : Dev nD,
      r.2.mem ((c.tc : Thread nD τ).loc main_v45_0) = out0 m c
      ∧ r.2.mem ((c.tc : Thread nD τ).loc main_v45_1) = out1 m c
      ∧ r.2.mem ((c.tc : Thread nD τ).loc main_v45_2) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨((h.1 c).1 10).trans (final10 m c), ((h.1 c).1 11).trans (final11 m c), ((h.1 c).1 12).trans (final12 m c), h.2 c⟩)
    (θ_run_and (run_main m ρ) (unchanged m ρ))

end Cert.KernelIdeal.Hand
-- ==== Proof.Order.lean ====
/- Sorting eight numbers in falling order by a stable sort of their positions, and what the sorted order says of each. -/
module

public import proofs.«01_k».proof.Proof.Consts
public import Idealize.ShloMosaic.Lib.SortFacts

@[expose] public section

noncomputable section

namespace Cert.Order

open Cert.Spec
open Idealize.ShloMosaic

/-- Whether position `a`'s number is the larger one. -/
def big (p : Fin 8 → EReal) (a b : Fin 8) : Bool := decide (p b < p a)

theorem before_trans (p : Fin 8 → EReal) (a b c : Fin 8) (h : before p a b) (h' : before p b c) : before p a c := by
  unfold before at *
  rcases h with h | ⟨h, g⟩ <;> rcases h' with h' | ⟨h', g'⟩
  · exact Or.inl (h'.trans h)
  · exact Or.inl (h' ▸ h)
  · exact Or.inl (h ▸ h')
  · exact Or.inr ⟨h.trans h', g.trans g'⟩

theorem before_irrefl (p : Fin 8 → EReal) (a : Fin 8) : ¬ before p a a := by
  unfold before
  rintro (h | ⟨_, h⟩) <;> exact lt_irrefl _ h

/-- Putting a position in front of later ones into an ordered list. -/
theorem pairwise_insert (p : Fin 8 → EReal) (a : Fin 8) (l : List (Fin 8)) (ha : ∀ b ∈ l, a < b) (hl : l.Pairwise (before p)) :
    (insertBefore (big p) a l).Pairwise (before p) := by
  induction l with
  | nil => exact List.pairwise_singleton _ _
  | cons b l ih =>
    unfold insertBefore
    have hb := List.pairwise_cons.mp hl
    split
    · rename_i h
      refine List.pairwise_cons.mpr ⟨fun c hc => ?_, ih (fun c hc => ha c (List.mem_cons_of_mem _ hc)) hb.2⟩
      rcases List.mem_cons.mp ((perm_insertBefore _ _ _).mem_iff.mp hc) with rfl | hc
      · exact Or.inl (of_decide_eq_true h)
      · exact hb.1 c hc
    · rename_i h
      have hab : before p a b := by
        have h2 : ¬ p a < p b := fun h3 => h (decide_eq_true h3)
        rcases lt_or_eq_of_le (not_lt.mp h2) with h3 | h3
        · exact Or.inl h3
        · exact Or.inr ⟨h3.symm, ha b List.mem_cons_self⟩
      refine List.pairwise_cons.mpr ⟨fun c hc => ?_, hl⟩
      rcases List.mem_cons.mp hc with rfl | hc
      · exact hab
      · exact before_trans p _ _ _ hab (hb.1 c hc)

/-- A stable sort of rising positions. -/
theorem pairwise_sort (p : Fin 8 → EReal) (l : List (Fin 8)) (hl : l.Pairwise (· < ·)) : (stableSort (big p) l).Pairwise (before p) := by
  induction l with
  | nil => exact List.Pairwise.nil
  | cons a l ih =>
    have h := List.pairwise_cons.mp hl
    unfold stableSort
    exact pairwise_insert p a _ (fun b hb => h.1 b ((perm_stableSort _ _).mem_iff.mp hb)) (ih h.2)

/-- The position whose number is the `k`th in falling order. -/
def nth (p : Fin 8 → EReal) : Fin 8 → Fin 8 := sortedFrom (big p)

theorem nth_bijective (p : Fin 8 → EReal) : Function.Bijective (nth p) := ⟨sortedFrom_injective _, sortedFrom_surjective _⟩

/-- The sorted order is `before`. -/
theorem nth_before (p : Fin 8 → EReal) (i j : Fin 8) (h : i < j) : before p (nth p i) (nth p j) :=
  List.pairwise_iff_get.mp (pairwise_sort p (List.finRange 8) (List.pairwise_lt_finRange 8))
    (i.cast (length_sortPositions 8 (big p)).symm) (j.cast (length_sortPositions 8 (big p)).symm) h

theorem before_nth (p : Fin 8 → EReal) (i j : Fin 8) : before p (nth p i) (nth p j) ↔ i < j := by
  refine ⟨fun h => ?_, nth_before p i j⟩
  rcases lt_trichotomy i j with g | g | g
  · exact g
  · subst g; exact absurd h (before_irrefl p _)
  · exact absurd (before_trans p _ _ _ h (nth_before p j i g)) (before_irrefl p _)

theorem sum_nth (p : Fin 8 → EReal) (f : Fin 8 → EReal) : ∑ i, f i = ∑ k, f (nth p k) :=
  (Function.Bijective.sum_comp (nth_bijective p) f).symm

/-- The mass before the `k`th. -/
theorem mass_nth (p : Fin 8 → EReal) (k : Fin 8) : mass p (nth p k) = ∑ j, p (nth p j) * ind (j < k) := by
  unfold mass
  rw [sum_nth p]
  exact Finset.sum_congr rfl fun j _ => by simp only [mul_ind, before_nth]

/-- The number of those before the `k`th. -/
theorem rank_nth (p : Fin 8 → EReal) (k : Fin 8) : rank p (nth p k) = ((k.val : ℝ) : EReal) := by
  unfold rank
  rw [sum_nth p]
  simp only [ind, before_nth]
  have h : ∀ k : Fin 8, (Finset.univ.filter fun j : Fin 8 => j < k).card = k.val := by decide
  rw [Finset.sum_boole, h]
  rfl

/-- Adding the first `k + 1` numbers and taking the last away. -/
theorem window (q : Fin 8 → EReal) (k : Fin 8) (hq : ∃ r : ℝ, q k = r) :
    (∑ n : Fin 8, if h : 7 ≤ k.val + n.val then q ⟨k.val + n.val - 7, by omega⟩ else 0) - q k = ∑ j, q j * ind (j < k) := by
  have h : (∑ n : Fin 8, if h : 7 ≤ k.val + n.val then q ⟨k.val + n.val - 7, by omega⟩ else 0) = (∑ j, q j * ind (j < k)) + q k := by
    simp only [mul_ind]
    fin_cases k <;> simp [Fin.sum_univ_eight]
  obtain ⟨r, hr⟩ := hq
  rw [h, hr, EReal.add_sub_cancel_right]

/-- Sorting the positions of the sorted numbers by their numbers goes back. -/
theorem back (p : Fin 8 → EReal) (e : Fin 8) : nth p (sortedFrom (fun k k' => decide (nth p k < nth p k')) e) = e := by
  set τ := sortedFrom (fun k k' => decide (nth p k < nth p k')) with hτ
  have hmono : StrictMono fun e => nth p (τ e) := by
    intro i j hij
    have h := sortedFrom_noInversion (fun k k' => decide (nth p k < nth p k')) (fun k k' => decide (nth p k < nth p k'))
      (fun a b h => decide_eq_false (of_decide_eq_true h).asymm) (fun a b h => h)
      (fun a b c h h' => decide_eq_false (not_lt.mpr ((not_lt.mp (of_decide_eq_false h')).trans (not_lt.mp (of_decide_eq_false h)))))
      i j hij
    have h2 : nth p (τ i) ≤ nth p (τ j) := not_lt.mp (of_decide_eq_false h)
    refine lt_of_le_of_ne h2 fun h3 => hij.ne ?_
    exact sortedFrom_injective _ ((nth_bijective p).1 h3)
  have := congrFun (Subsingleton.elim (hmono.orderIsoOfSurjective _ ((nth_bijective p).2.comp (sortedFrom_surjective _))) (OrderIso.refl _) |> congrArg DFunLike.coe) e
  exact this

end Cert.Order
-- ==== Proof.RefRest.lean ====
/- The reference's values token by token, all but the choice of experts. -/
module

public import proofs.«01_k».proof.Proof.Consts
public import proofs.«01_k».proof.Proof.Gen.ReferenceIdeal.Read

@[expose] public section

noncomputable section

namespace Cert.RefRest

open Cert.ReferenceIdeal Cert.ReferenceIdeal.Read Cert.Spec
open Idealize.ShloMosaic

variable (x0 : FVec Ideal S1x4x2048x768 .f32) (x1 : FVec Ideal S8x3072 .f32) (x2 x3 : FVec Ideal S8x4x3072 .f32)
  (x4 : FVec Ideal S8x16x3072 .f32) (x5 x6 : FVec Ideal S8x4 .f32) (x7 : FVec Ideal S8x4x4 .f32) (x8 x9 x10 : FVec Ideal S8 .f32)
  (x11 : FVec Ideal S8x768 .f32) (x12 x13 : FVec Ideal S8x768x768 .f32) (x14 x15 : FVec Ideal S8x1242x768 .f32)
  (x16 : FVec Ideal S8x768x1242 .f32) (x17 : FVec Ideal S8x768 .f32)

/-- The router logits. -/
theorem v5 (t : Fin 2048) (e : Fin 8) : val_main_v5 (F := Ideal) x0 x17 (ix2 t e) = logit (tok x0 t) (fun e d => x17 (ix2 e d)) e := by
  pointwise [val_main_v5, val_main_v3, val_main_v1, val_main_v0, val_main_cst, val_main_v2, val_main_cst_0, val_main_v4, div4]
  rfl

/-- The largest logit. -/
theorem v10 (t : Fin 2048) (e : Fin 8) : val_main_v10 (F := Ideal) x0 x17 (ix2 t e) = top (logit (tok x0 t) (fun e d => x17 (ix2 e d))) := by
  pointwise [val_main_v10, val_main_v9, val_main_v8, val_main_v7, val_main_cst_2, val_main_v6, val_main_cst_1, v5 x0 x17, ofBits_ninf, max_bot_left]
  rfl

/-- The probabilities. -/
theorem v16 (t : Fin 2048) (e : Fin 8) : val_main_v16 (F := Ideal) x0 x17 (ix2 t e) = prob (logit (tok x0 t) (fun e d => x17 (ix2 e d))) e := by
  pointwise [val_main_v16, val_main_v12, val_main_v11, val_main_v15, val_main_v14, val_main_v13, val_main_cst_3, v5 x0 x17, v10 x0 x17]
  rfl

/-- The streams of a token side by side. -/
theorem v43 (t : Fin 2048) (n : Fin 4) (d : Fin 768) : val_main_v43 (F := Ideal) x0 (ix2 t (fl n d)) = tok x0 t n d := by
  pointwise [val_main_v43, val_main_v42, val_main_v0]
  have h1 : (fl n d).val / 768 = n.val := by simp only [fl]; omega
  have h2 : (fl n d).val % 768 = d.val := by simp only [fl]; omega
  simp only [h1, h2]
  rfl

/-- The norm's factor. -/
theorem v51 (t : Fin 2048) : val_main_v51 (F := Ideal) x0 (ix2 t 0) = rms (tok x0 t) := by
  pointwise [val_main_v51, val_main_v50, val_main_v48, val_main_v46, val_main_v45, val_main_v44, val_main_cst_9, val_main_v47, val_main_cst_10, val_main_v49, val_main_cst_11, div3072]
  rw [sum_fl]
  simp only [v43]
  rfl

/-- The normed streams times the norm weight. -/
theorem v59 (k : Fin 7) (t : Fin 2048) (n : Fin 4) (d : Fin 768) : val_main_v59 (F := Ideal) x0 x1 (ix3 k t (fl n d)) = tok x0 t n d * rms (tok x0 t) * x1 (ix2 k.succ (fl n d)) := by
  pointwise [val_main_v59, val_main_v57, val_main_v54, val_main_v53, val_main_v52, val_main_v58, val_main_v56, val_main_v55, v43 x0, v51 x0]
  have h : (⟨1 + k.val, by omega⟩ : Fin 8) = k.succ := Fin.ext (by simp [Nat.add_comm])
  simp only [h]

/-- The shift of the experts' numbers. -/
theorem sh (k : Fin 7) (h : 1 + k.val < 8) : (⟨1 + k.val, h⟩ : Fin 8) = k.succ := by
  exact Fin.ext (by simp [Nat.add_comm])

/-- The first projection. -/
theorem v63 (k : Fin 7) (t : Fin 2048) (n : Fin 4) : val_main_v63 (F := Ideal) x0 x1 x2 (ix3 k t n) = proj (tok x0 t) (fun n' d => x2 (ix3 k.succ n (fl n' d)) * x1 (ix2 k.succ (fl n' d))) := by
  pointwise [val_main_v63, val_main_v62]
  rw [sum_fl]
  simp only [v59, sh]
  unfold proj
  refine Finset.sum_congr rfl fun n' _ => Finset.sum_congr rfl fun d _ => ?_
  beta_reduce
  ac_rfl

/-- The second projection. -/
theorem v79 (k : Fin 7) (t : Fin 2048) (n : Fin 4) : val_main_v79 (F := Ideal) x0 x1 x3 (ix3 k t n) = proj (tok x0 t) (fun n' d => x3 (ix3 k.succ n (fl n' d)) * x1 (ix2 k.succ (fl n' d))) := by
  pointwise [val_main_v79, val_main_v78]
  rw [sum_fl]
  simp only [v59, sh]
  unfold proj
  refine Finset.sum_congr rfl fun n' _ => Finset.sum_congr rfl fun d _ => ?_
  beta_reduce
  ac_rfl

/-- The third projection. -/
theorem v95 (k : Fin 7) (t : Fin 2048) (q : Fin 16) : val_main_v95 (F := Ideal) x0 x1 x4 (ix3 k t q) = proj (tok x0 t) (fun n' d => x4 (ix3 k.succ q (fl n' d)) * x1 (ix2 k.succ (fl n' d))) := by
  pointwise [val_main_v95, val_main_v94]
  rw [sum_fl]
  simp only [v59, sh]
  unfold proj
  refine Finset.sum_congr rfl fun n' _ => Finset.sum_congr rfl fun d _ => ?_
  beta_reduce
  ac_rfl

/-- The weights of the streams in an expert's input. -/
theorem v75 (k : Fin 7) (t : Fin 2048) (n : Fin 4) : val_main_v75 (F := Ideal) x0 x1 x2 x5 x8 (ix3 k t n) = pre (par x1 x2 x3 x4 x5 x6 x7 x8 x9 x10 x11 x12 x13 x14 x15 x16 x17) (tok x0 t) k n := by
  pointwise [val_main_v75, val_main_v74, val_main_cst_13, val_main_v73, val_main_v72, val_main_cst_12, val_main_v71, val_main_v70, val_main_v69, val_main_v65, val_main_v64, val_main_v61, val_main_v60, val_main_v68, val_main_v67, val_main_v66, v63, sh]
  rfl

/-- The weights of an expert's output in the streams. -/
theorem v93 (k : Fin 7) (t : Fin 2048) (n : Fin 4) : val_main_v93 (F := Ideal) x0 x1 x3 x6 x9 (ix3 k t n) = post (par x1 x2 x3 x4 x5 x6 x7 x8 x9 x10 x11 x12 x13 x14 x15 x16 x17) (tok x0 t) k n := by
  pointwise [val_main_v93, val_main_v92, val_main_cst_16, val_main_v91, val_main_v90, val_main_cst_15, val_main_v89, val_main_v88, val_main_cst_14, val_main_v87, val_main_v86, val_main_v85, val_main_v81, val_main_v80, val_main_v77, val_main_v76, val_main_v84, val_main_v83, val_main_v82, v79, sh, ofBits_2]
  rfl

/-- The mixing matrix before its normalization. -/
theorem v105 (k : Fin 7) (t : Fin 2048) (i j : Fin 4) : val_main_v105 (F := Ideal) x0 x1 x4 x7 x10 (ix4 k t i j) = res (par x1 x2 x3 x4 x5 x6 x7 x8 x9 x10 x11 x12 x13 x14 x15 x16 x17) (tok x0 t) k i j := by
  pointwise [val_main_v105, val_main_v104, val_main_v100, val_main_v99, val_main_v98, val_main_v97, val_main_v96, val_main_v103, val_main_v102, val_main_v101, v95, sh]
  rfl

/-- Dividing by the row sums. -/
theorem v109 (k : Fin 7) (t : Fin 2048) (i j : Fin 4) : val_main_v109 (F := Ideal) x0 x1 x4 x7 x10 (ix4 k t i j) = rowN (fun i j => val_main_v105 (F := Ideal) x0 x1 x4 x7 x10 (ix4 k t i j)) i j := by
  pointwise [val_main_v109, val_main_v108, val_main_v107, val_main_v106, val_main_cst_17]
  rfl

/-- Dividing by the column sums. -/
theorem v113 (k : Fin 7) (t : Fin 2048) (i j : Fin 4) : val_main_v113 (F := Ideal) x0 x1 x4 x7 x10 (ix4 k t i j) = colN (fun i j => val_main_v109 (F := Ideal) x0 x1 x4 x7 x10 (ix4 k t i j)) i j := by
  pointwise [val_main_v113, val_main_v112, val_main_v111, val_main_v110, val_main_cst_18]
  rfl

/-- Dividing by the row sums. -/
theorem v117 (k : Fin 7) (t : Fin 2048) (i j : Fin 4) : val_main_v117 (F := Ideal) x0 x1 x4 x7 x10 (ix4 k t i j) = rowN (fun i j => val_main_v113 (F := Ideal) x0 x1 x4 x7 x10 (ix4 k t i j)) i j := by
  pointwise [val_main_v117, val_main_v116, val_main_v115, val_main_v114, val_main_cst_19]
  rfl

/-- Dividing by the column sums. -/
theorem v121 (k : Fin 7) (t : Fin 2048) (i j : Fin 4) : val_main_v121 (F := Ideal) x0 x1 x4 x7 x10 (ix4 k t i j) = colN (fun i j => val_main_v117 (F := Ideal) x0 x1 x4 x7 x10 (ix4 k t i j)) i j := by
  pointwise [val_main_v121, val_main_v120, val_main_v119, val_main_v118, val_main_cst_20]
  rfl

/-- Dividing by the row sums. -/
theorem v125 (k : Fin 7) (t : Fin 2048) (i j : Fin 4) : val_main_v125 (F := Ideal) x0 x1 x4 x7 x10 (ix4 k t i j) = rowN (fun i j => val_main_v121 (F := Ideal) x0 x1 x4 x7 x10 (ix4 k t i j)) i j := by
  pointwise [val_main_v125, val_main_v124, val_main_v123, val_main_v122, val_main_cst_21]
  rfl

/-- Dividing by the column sums. -/
theorem v129 (k : Fin 7) (t : Fin 2048) (i j : Fin 4) : val_main_v129 (F := Ideal) x0 x1 x4 x7 x10 (ix4 k t i j) = colN (fun i j => val_main_v125 (F := Ideal) x0 x1 x4 x7 x10 (ix4 k t i j)) i j := by
  pointwise [val_main_v129, val_main_v128, val_main_v127, val_main_v126, val_main_cst_22]
  rfl

/-- Dividing by the row sums. -/
theorem v133 (k : Fin 7) (t : Fin 2048) (i j : Fin 4) : val_main_v133 (F := Ideal) x0 x1 x4 x7 x10 (ix4 k t i j) = rowN (fun i j => val_main_v129 (F := Ideal) x0 x1 x4 x7 x10 (ix4 k t i j)) i j := by
  pointwise [val_main_v133, val_main_v132, val_main_v131, val_main_v130, val_main_cst_23]
  rfl

/-- Dividing by the column sums. -/
theorem v137 (k : Fin 7) (t : Fin 2048) (i j : Fin 4) : val_main_v137 (F := Ideal) x0 x1 x4 x7 x10 (ix4 k t i j) = colN (fun i j => val_main_v133 (F := Ideal) x0 x1 x4 x7 x10 (ix4 k t i j)) i j := by
  pointwise [val_main_v137, val_main_v136, val_main_v135, val_main_v134, val_main_cst_24]
  rfl

/-- Dividing by the row sums. -/
theorem v141 (k : Fin 7) (t : Fin 2048) (i j : Fin 4) : val_main_v141 (F := Ideal) x0 x1 x4 x7 x10 (ix4 k t i j) = rowN (fun i j => val_main_v137 (F := Ideal) x0 x1 x4 x7 x10 (ix4 k t i j)) i j := by
  pointwise [val_main_v141, val_main_v140, val_main_v139, val_main_v138, val_main_cst_25]
  rfl

/-- Dividing by the column sums. -/
theorem v145 (k : Fin 7) (t : Fin 2048) (i j : Fin 4) : val_main_v145 (F := Ideal) x0 x1 x4 x7 x10 (ix4 k t i j) = colN (fun i j => val_main_v141 (F := Ideal) x0 x1 x4 x7 x10 (ix4 k t i j)) i j := by
  pointwise [val_main_v145, val_main_v144, val_main_v143, val_main_v142, val_main_cst_26]
  rfl

/-- Dividing by the row sums. -/
theorem v149 (k : Fin 7) (t : Fin 2048) (i j : Fin 4) : val_main_v149 (F := Ideal) x0 x1 x4 x7 x10 (ix4 k t i j) = rowN (fun i j => val_main_v145 (F := Ideal) x0 x1 x4 x7 x10 (ix4 k t i j)) i j := by
  pointwise [val_main_v149, val_main_v148, val_main_v147, val_main_v146, val_main_cst_27]
  rfl

/-- Dividing by the column sums. -/
theorem v153 (k : Fin 7) (t : Fin 2048) (i j : Fin 4) : val_main_v153 (F := Ideal) x0 x1 x4 x7 x10 (ix4 k t i j) = colN (fun i j => val_main_v149 (F := Ideal) x0 x1 x4 x7 x10 (ix4 k t i j)) i j := by
  pointwise [val_main_v153, val_main_v152, val_main_v151, val_main_v150, val_main_cst_28]
  rfl

/-- The mixing matrix. -/
theorem vmix (k : Fin 7) (t : Fin 2048) (i j : Fin 4) : val_main_v153 (F := Ideal) x0 x1 x4 x7 x10 (ix4 k t i j) = mix (par x1 x2 x3 x4 x5 x6 x7 x8 x9 x10 x11 x12 x13 x14 x15 x16 x17) (tok x0 t) k i j := by
  simp only [v113, v109, v121, v117, v129, v125, v137, v133, v145, v141, v153, v149]
  simp only [v105 x0 x1 x2 x3 x4 x5 x6 x7 x8 x9 x10 x11 x12 x13 x14 x15 x16 x17]
  rfl

/-- An expert's input. -/
theorem v155 (k : Fin 7) (t : Fin 2048) (d : Fin 768) : val_main_v155 (F := Ideal) x0 x1 x2 x5 x8 (ix3 k t d) = he (par x1 x2 x3 x4 x5 x6 x7 x8 x9 x10 x11 x12 x13 x14 x15 x16 x17) (tok x0 t) k d := by
  pointwise [val_main_v155, val_main_v154, val_main_v0, v75 x0 x1 x2 x3 x4 x5 x6 x7 x8 x9 x10 x11 x12 x13 x14 x15 x16 x17]
  exact Finset.sum_congr rfl fun n _ => mul_comm _ _

/-- The expert's normed input. -/
theorem v169 (k : Fin 7) (t : Fin 2048) (d : Fin 768) : val_main_v169 (F := Ideal) x0 x1 x2 x5 x8 x11 (ix3 k t d) = normed (he (par x1 x2 x3 x4 x5 x6 x7 x8 x9 x10 x11 x12 x13 x14 x15 x16 x17) (tok x0 t) k) ((par x1 x2 x3 x4 x5 x6 x7 x8 x9 x10 x11 x12 x13 x14 x15 x16 x17).nw k) d := by
  pointwise [val_main_v169, val_main_v165, val_main_v164, val_main_v163, val_main_v162, val_main_v160, val_main_v158, val_main_v157, val_main_v156, val_main_cst_29, val_main_v159, val_main_cst_30, val_main_v161, val_main_cst_31, val_main_v168, val_main_v167, val_main_v166, v155 x0 x1 x2 x3 x4 x5 x6 x7 x8 x9 x10 x11 x12 x13 x14 x15 x16 x17, sh, div768]
  rfl

/-- An expert's output. -/
theorem v189 (k : Fin 7) (t : Fin 2048) (d : Fin 768) : val_main_v189 (F := Ideal) x0 x1 x2 x5 x8 x11 x12 x13 x14 x15 x16 (ix3 k t d) = oute (par x1 x2 x3 x4 x5 x6 x7 x8 x9 x10 x11 x12 x13 x14 x15 x16 x17) (tok x0 t) k d := by
  pointwise [val_main_v189, val_main_v180, val_main_v179, val_main_cst_33, val_main_v178, val_main_v177, val_main_cst_32, val_main_v176, val_main_v175, val_main_v174, val_main_v172, val_main_v171, val_main_v170, val_main_call1_v5, val_main_call1_v4, val_main_call1_cst_0, val_main_call1_v3, val_main_call1_v2, val_main_call1_cst, val_main_call1_v1, val_main_call1_v0, val_main_v173, val_main_v188, val_main_v186, val_main_v185, val_main_v182, val_main_v181, val_main_call2_v5, val_main_call2_v4, val_main_call2_cst_0, val_main_call2_v3, val_main_call2_v2, val_main_call2_cst, val_main_call2_v1, val_main_call2_v0, val_main_v184, val_main_v183, val_main_v187, v169 x0 x1 x2 x3 x4 x5 x6 x7 x8 x9 x10 x11 x12 x13 x14 x15 x16 x17, sh]
  rfl

/-- The result, with the gates as the reference computes them. -/
theorem v204 (n : Fin 4) (t : Fin 2048) (d : Fin 768) : val_main_v204 (F := Ideal) x0 x1 x2 x3 x4 x5 x6 x7 x8 x9 x10 x11 x12 x13 x14 x15 x16 x17 (ix3 n t d) = ∑ k : Fin 7, val_main_v32_1 (F := Ideal) x0 x17 (ix2 t k.succ) * ((∑ j, mix (par x1 x2 x3 x4 x5 x6 x7 x8 x9 x10 x11 x12 x13 x14 x15 x16 x17) (tok x0 t) k n j * tok x0 t j d) + post (par x1 x2 x3 x4 x5 x6 x7 x8 x9 x10 x11 x12 x13 x14 x15 x16 x17) (tok x0 t) k n * oute (par x1 x2 x3 x4 x5 x6 x7 x8 x9 x10 x11 x12 x13 x14 x15 x16 x17) (tok x0 t) k d) := by
  pointwise [val_main_v204, val_main_v203, val_main_v202, val_main_v192, val_main_v191, val_main_v190, val_main_v201, val_main_v194, val_main_v193, val_main_v0, val_main_v200, val_main_v198, val_main_v196, val_main_v195, val_main_v199, val_main_v197, val_main_cst_34, vmix x0 x1 x2 x3 x4 x5 x6 x7 x8 x9 x10 x11 x12 x13 x14 x15 x16 x17, v93 x0 x1 x2 x3 x4 x5 x6 x7 x8 x9 x10 x11 x12 x13 x14 x15 x16 x17, v189 x0 x1 x2 x3 x4 x5 x6 x7 x8 x9 x10 x11 x12 x13 x14 x15 x16 x17, sh]
  refine Finset.sum_congr rfl fun k _ => ?_
  congr 2
  exact Finset.sum_congr rfl fun j _ => mul_comm _ _

/-- The log probability, with the gates as the reference computes them. -/
theorem v41 (t : Fin 2048) : val_main_v41 (F := Ideal) x0 x17 (ix2 t 0) = lp (prob (logit (tok x0 t) (fun e d => x17 (ix2 e d)))) (fun e => val_main_v32_1 (F := Ideal) x0 x17 (ix2 t e)) := by
  pointwise [val_main_v41, val_main_v40, val_main_v39, val_main_v38, val_main_v36, val_main_v37, val_main_cst_7, val_main_v35, val_main_v34, val_main_v33, val_main_cst_6, val_main_cst_8, v16 x0 x17, uitofp_ind]
  rfl

end Cert.RefRest
-- ==== Proof.RefGate.lean ====
/- The reference's gates: sorted by falling probability, cut where the mass is reached, and put back in place. -/
module

public import proofs.«01_k».proof.Proof.Order
public import proofs.«01_k».proof.Proof.RefRest

@[expose] public section

noncomputable section

namespace Cert.RefRest

open Cert.ReferenceIdeal Cert.ReferenceIdeal.Read Cert.Spec Cert.Order
open Idealize.ShloMosaic

/-- The first sort's comparison, of two numbers with their signs turned. -/
theorem cmp_float (x y : EReal) (a b : Ideal .f32) (i j : BitVec 32) :
    (comparator_f32_f32_i32_d1 (F := Ideal) (-x, a, i) (-y, b, j) == 1#1) = decide (y < x) := by
  have hsel : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) = z := by
    intro z
    have h0 : (FloatOps.ofBits (F := Ideal) .f32 0x00000000#32) = (0 : EReal) := Ideal.ofBits_zero_f32
    have h1 : FloatOps.cmpf (F := Ideal) (φ := .f32) .une z z = 0#1 := by
      show BitVec.ofBool (decide (z ≠ z)) = 0#1
      simp
    have h2 : FloatOps.cmpf (F := Ideal) (φ := .f32) .oeq z (0 : EReal) = BitVec.ofBool (decide (z = 0)) := rfl
    rw [h0, h1, h2]
    by_cases h : z = 0
    · simp [h, Scalar.select]
    · simp [h, Scalar.select]
  unfold comparator_f32_f32_i32_d1
  dsimp only
  rw [hsel, hsel]
  show (BitVec.ofBool (decide (-x < -y)) == 1#1) = decide (y < x)
  simp only [EReal.neg_lt_neg_iff]
  by_cases h : y < x <;> simp [h]

/-- The second sort's comparison, of two expert numbers. -/
theorem cmp_int (a b : Fin 8) (x y : Ideal .f32) :
    (comparator_i32_f32_d1 (F := Ideal) (BitVec.ofNat 32 a.val, x) (BitVec.ofNat 32 b.val, y) == 1#1) = decide (a < b) := by
  show (IntOp.cmpi .slt (BitVec.ofNat 32 a.val) (BitVec.ofNat 32 b.val) == 1#1) = decide (a < b)
  revert a b
  decide

theorem along1 (t : Fin 2048) (e k : Fin 8) : (ix2 t e : S2048x8.Idx).along 1 k = ix2 t k := by
  funext a
  match a with
  | 0 => rfl
  | 1 => rfl

variable (x0 : FVec Ideal S1x4x2048x768 .f32) (x17 : FVec Ideal S8x768 .f32)

/-- The token's probabilities. -/
def pr (t : Fin 2048) : Fin 8 → EReal := prob (logit (tok x0 t) (fun e d => x17 (ix2 e d)))

theorem perm3 (t : Fin 2048) (e : Fin 8) :
    sortedFrom (fun k k' : Fin 8 => comparator_f32_f32_i32_d1 (F := Ideal)
      (val_main_v18 (F := Ideal) x0 x17 ((ix2 t e : S2048x8.Idx).along 1 k), val_main_v16 (F := Ideal) x0 x17 ((ix2 t e : S2048x8.Idx).along 1 k),
        val_main_v17 (F := Ideal) ((ix2 t e : S2048x8.Idx).along 1 k))
      (val_main_v18 (F := Ideal) x0 x17 ((ix2 t e : S2048x8.Idx).along 1 k'), val_main_v16 (F := Ideal) x0 x17 ((ix2 t e : S2048x8.Idx).along 1 k'),
        val_main_v17 (F := Ideal) ((ix2 t e : S2048x8.Idx).along 1 k')) == 1#1) = nth (pr x0 x17 t) := by
  unfold nth big
  refine congrArg sortedFrom (funext fun k => funext fun k' => ?_)
  rw [along1, along1]
  have h : ∀ k, val_main_v18 (F := Ideal) x0 x17 (ix2 t k) = -(pr x0 x17 t k) := fun k => congrArg (fun z : EReal => -z) (v16 x0 x17 t k)
  rw [h, h]
  exact cmp_float _ _ _ _ _ _

/-- The sorted probabilities. -/
theorem v19_1 (t : Fin 2048) (k : Fin 8) : val_main_v19_1 (F := Ideal) x0 x17 (ix2 t k) = pr x0 x17 t (nth (pr x0 x17 t) k) := by
  have h := perm3 x0 x17 t k
  show val_main_v16 (F := Ideal) x0 x17 ((ix2 t k : S2048x8.Idx).along 1 (sortedFrom _ k)) = _
  erw [h]
  exact (congrArg _ (along1 t k _)).trans (v16 x0 x17 t _)

/-- The experts' numbers in sorted order. -/
theorem v19_2 (t : Fin 2048) (k : Fin 8) : val_main_v19_2 (F := Ideal) x0 x17 (ix2 t k) = BitVec.ofNat 32 (nth (pr x0 x17 t) k).val := by
  have h := perm3 x0 x17 t k
  show val_main_v17 (F := Ideal) ((ix2 t k : S2048x8.Idx).along 1 (sortedFrom _ k)) = _
  erw [h]
  exact congrArg (val_main_v17 (F := Ideal)) (along1 t k _)

/-- A left fold of additions is a sum. -/
theorem fold_sum {n : ℕ} (g : Fin n → EReal) : (List.finRange n).foldl (fun r i => r + g i) 0 = ∑ i, g i := by
  rw [Fin.sum_univ_def, List.sum_eq_foldl, List.foldl_map]

/-- The window's shape. -/
abbrev Win : Shape := ⟨2, ![1, 8]⟩

theorem win_pos : ∀ n : Fin Win.numel, (Win.rowMajor.symm n 0).val = 0 ∧ (Win.rowMajor.symm n 1).val = n.val := by decide

/-- A sum over the eight places up to and with place `k`. -/
theorem window_row (x : S2048x8.Idx → EReal) (z : EReal) (hz : z = 0)
    (h : S2048x8.ReduceWindows ![1, 8] ![1, 1] ![0, 7] ![0, 0] S2048x8) (t : Fin 2048) (k : Fin 8) :
    Ideal.hostReduceWindowAdd ![1, 8] ![1, 1] ![0, 7] ![0, 0] h x z (ix2 t k) =
      ∑ n : Fin 8, if h : 7 ≤ k.val + n.val then x (ix2 t ⟨k.val + n.val - 7, by omega⟩) else 0 := by
  subst hz
  unfold Ideal.hostReduceWindowAdd Host.reduceWindow
  dsimp only
  refine Eq.trans ?_ (fold_sum (n := 8) fun n => if h : 7 ≤ k.val + n.val then x (ix2 t ⟨k.val + n.val - 7, by omega⟩) else 0)
  show List.foldl _ 0 (List.finRange 8) = _
  congr 1
  funext r n
  congr 1
  have hn := win_pos n
  have hn8 : n.val < 8 := n.isLt
  have hk8 := k.isLt
  have p0 : t.val * 1 + (Win.rowMajor.symm n 0).val = t.val := by rw [hn.1]; omega
  have p1 : k.val * 1 + (Win.rowMajor.symm n 1).val = k.val + n.val := by rw [hn.2]; omega
  by_cases hk : 7 ≤ k.val + n.val
  · rw [dif_pos hk, dif_pos]
    · congr 1
      funext a
      match a with
      | 0 => exact Fin.ext p0
      | 1 => exact Fin.ext (congrArg (· - 7) p1)
    · intro a
      match a with
      | 0 => exact ⟨Nat.zero_le _, lt_of_eq_of_lt p0 t.isLt⟩
      | 1 => exact ⟨le_of_le_of_eq hk p1.symm, lt_of_eq_of_lt (congrArg (· - 7) p1) (show k.val + n.val - 7 < 8 by omega)⟩
  · rw [dif_neg hk, dif_neg]
    intro hc
    exact hk (le_of_le_of_eq (hc 1).1 p1)

/-- The running sum. -/
theorem v20 (t : Fin 2048) (k : Fin 8) : val_main_v20 (F := Ideal) x0 x17 (ix2 t k) =
    ∑ n : Fin 8, if h : 7 ≤ k.val + n.val then pr x0 x17 t (nth (pr x0 x17 t) ⟨k.val + n.val - 7, by omega⟩) else 0 := by
  refine Eq.trans (window_row (val_main_v19_1 (F := Ideal) x0 x17) _ Ideal.ofBits_zero_f32 Cert.ReferenceIdeal.Facts₀.reduceWindows_S2048x8_S2048x8_w1s1p0_0_w8s1p7_0 t k) ?_
  simp only [v19_1]

/-- The mass before. -/
theorem v21 (t : Fin 2048) (k : Fin 8) (hp : ∀ e, ∃ r : ℝ, pr x0 x17 t e = r) :
    val_main_v21 (F := Ideal) x0 x17 (ix2 t k) = mass (pr x0 x17 t) (nth (pr x0 x17 t) k) := by
  rw [mass_nth, ← window (fun j => pr x0 x17 t (nth (pr x0 x17 t) j)) k (hp _), ← v20, ← v19_1]
  rfl

/-- Whether the expert is chosen. -/
theorem v29 (t : Fin 2048) (k : Fin 8) (hp : ∀ e, ∃ r : ℝ, pr x0 x17 t e = r) :
    val_main_v29 (F := Ideal) x0 x17 (ix2 t k) = BitVec.ofBool (decide (chosen (pr x0 x17 t) (nth (pr x0 x17 t) k))) := by
  have h1 : val_main_v23 (F := Ideal) x0 x17 (ix2 t k) = BitVec.ofBool (decide (mass (pr x0 x17 t) (nth (pr x0 x17 t) k) < thr)) := by
    rw [← v21 x0 x17 t k hp]
    rfl
  have h2 : ∀ k : Fin 8, IntOp.cmpi .slt (BitVec.ofNat 32 k.val) 4#32 = BitVec.ofBool (decide (k.val < 4)) := by decide
  have h3 : ∀ k : Fin 8, IntOp.cmpi .eq (BitVec.ofNat 32 k.val) 0#32 = BitVec.ofBool (decide (k.val = 0)) := by decide
  show (val_main_v23 (F := Ideal) x0 x17 (ix2 t k) &&& IntOp.cmpi .slt (BitVec.ofNat 32 k.val) 4#32)
    ||| IntOp.cmpi .eq (BitVec.ofNat 32 k.val) 0#32 = _
  rw [h1, h2, h3, and_ofBool, or_ofBool]
  congr 1
  rw [Bool.eq_iff_iff]
  have h4 : rank (pr x0 x17 t) (nth (pr x0 x17 t) k) < 4 ↔ k.val < 4 := by
    rw [rank_nth]
    exact (EReal.coe_lt_coe_iff (y := 4)).trans (by norm_cast)
  have h5 : rank (pr x0 x17 t) (nth (pr x0 x17 t) k) = 0 ↔ k.val = 0 := by
    rw [rank_nth]
    exact (EReal.coe_eq_coe_iff (y := 0)).trans (by norm_cast)
  simp only [Bool.or_eq_true, Bool.and_eq_true, decide_eq_true_eq]
  unfold chosen
  rw [h4, h5]

/-- The sorted gates. -/
theorem v31 (t : Fin 2048) (k : Fin 8) (hp : ∀ e, ∃ r : ℝ, pr x0 x17 t e = r) :
    val_main_v31 (F := Ideal) x0 x17 (ix2 t k) = gate (pr x0 x17 t) (nth (pr x0 x17 t) k) := by
  show val_main_v19_1 (F := Ideal) x0 x17 (ix2 t k) * FloatOps.uitofp (F := Ideal) .f32 (val_main_v29 (F := Ideal) x0 x17 (ix2 t k)) = _
  rw [v19_1, v29 x0 x17 t k hp, uitofp_ind]
  rfl

/-- The gates in place. -/
theorem v32_1 (t : Fin 2048) (e : Fin 8) (hp : ∀ e, ∃ r : ℝ, pr x0 x17 t e = r) :
    val_main_v32_1 (F := Ideal) x0 x17 (ix2 t e) = gate (pr x0 x17 t) e := by
  have h : sortedFrom (fun k k' : Fin 8 => comparator_i32_f32_d1 (F := Ideal)
      (val_main_v19_2 (F := Ideal) x0 x17 ((ix2 t e : S2048x8.Idx).along 1 k), val_main_v31 (F := Ideal) x0 x17 ((ix2 t e : S2048x8.Idx).along 1 k))
      (val_main_v19_2 (F := Ideal) x0 x17 ((ix2 t e : S2048x8.Idx).along 1 k'), val_main_v31 (F := Ideal) x0 x17 ((ix2 t e : S2048x8.Idx).along 1 k'))
      == 1#1) = sortedFrom (fun k k' => decide (nth (pr x0 x17 t) k < nth (pr x0 x17 t) k')) := by
    refine congrArg sortedFrom (funext fun k => funext fun k' => ?_)
    rw [along1, along1, v19_2, v19_2]
    exact cmp_int _ _ _ _
  show val_main_v31 (F := Ideal) x0 x17 ((ix2 t e : S2048x8.Idx).along 1 (sortedFrom _ e)) = _
  erw [h]
  refine (congrArg _ (along1 t e _)).trans ((v31 x0 x17 t _ hp).trans ?_)
  rw [back]

end Cert.RefRest
-- ==== Proof.Math.lean ====
/- The update and its accumulated form are one value where the streams and the router's weights are finite. -/
module

public import proofs.«01_k».proof.Proof.Consts

@[expose] public section

noncomputable section

namespace Cert.Math

open Cert.Spec
open Idealize.ShloMosaic

/-- A finite number. -/
def IsFin (x : EReal) : Prop := ∃ r : ℝ, x = (r : EReal)

theorem coe_sum {ι : Type} (u : Finset ι) (g : ι → ℝ) : ((∑ i ∈ u, g i : ℝ) : EReal) = ∑ i ∈ u, (g i : EReal) := by
  classical
  induction u using Finset.induction_on with
  | empty => simp
  | insert i u hi ih => rw [Finset.sum_insert hi, Finset.sum_insert hi, EReal.coe_add, ih]

theorem fin_sum {ι : Type} (u : Finset ι) (f : ι → EReal) (h : ∀ i, IsFin (f i)) : IsFin (∑ i ∈ u, f i) := by
  choose g hg using h
  exact ⟨∑ i ∈ u, g i, by rw [coe_sum]; exact Finset.sum_congr rfl fun i _ => hg i⟩

theorem fin_mul {x y : EReal} (hx : IsFin x) (hy : IsFin y) : IsFin (x * y) := by
  obtain ⟨a, rfl⟩ := hx
  obtain ⟨b, rfl⟩ := hy
  exact ⟨a * b, (EReal.coe_mul a b).symm⟩

/-! ### The router -/

theorem fin_logit (s : Tok) (w : Fin 8 → Fin 768 → EReal) (hs : ∀ n d, IsFin (s n d)) (hw : ∀ e d, IsFin (w e d)) (e : Fin 8) :
    IsFin (logit s w e) :=
  fin_sum _ _ fun d => fin_mul (fin_mul (fin_sum _ _ fun n => hs n d) ⟨_, rfl⟩) (hw e d)

/-- IsFin logits have finite probabilities that are not negative. -/
theorem fin_prob (l : Fin 8 → EReal) (h : ∀ e, IsFin (l e)) (e : Fin 8) : ∃ r : ℝ, prob l e = r ∧ 0 ≤ r := by
  obtain ⟨i, -, hi⟩ := Finset.exists_mem_eq_sup (Finset.univ : Finset (Fin 8)) Finset.univ_nonempty l
  have ht : top l = l i := hi
  obtain ⟨m, hm⟩ := h i
  choose g hg using h
  have hx : ∀ j, Ideal.exp (l j - top l) = ((Real.exp (g j - m) : ℝ) : EReal) := by
    intro j
    rw [ht, hm, hg j, ← EReal.coe_sub, Ideal.exp_coe]
  have hsum : ∑ j, Ideal.exp (l j - top l) = ((∑ j, Real.exp (g j - m) : ℝ) : EReal) := by
    rw [coe_sum]
    exact Finset.sum_congr rfl fun j _ => hx j
  have hpos : 0 < ∑ j, Real.exp (g j - m) := Finset.sum_pos (fun j _ => Real.exp_pos _) Finset.univ_nonempty
  refine ⟨Real.exp (g e - m) * (1 / ∑ j, Real.exp (g j - m)), ?_, by positivity⟩
  unfold prob
  rw [hsum, Ideal.div_coe hpos.ne', hx, ← EReal.coe_mul]

/-- The gates are finite and not negative. -/
theorem fin_gate (p : Fin 8 → EReal) (e : Fin 8) (h : ∃ r : ℝ, p e = r ∧ 0 ≤ r) : ∃ r : ℝ, gate p e = r ∧ 0 ≤ r := by
  obtain ⟨r, hr, h0⟩ := h
  unfold gate
  rw [mul_ind]
  split
  · exact ⟨r, hr, h0⟩
  · exact ⟨0, rfl, le_rfl⟩

/-! ### The mixing matrix -/

/-- A number that is `⊥` or not negative. -/
def Ok (x : EReal) : Prop := x = ⊥ ∨ 0 ≤ x

/-- Dividing by a sum of such numbers. -/
theorem ok_div (f : Fin 4 → EReal) (h : ∀ j, Ok (f j)) (i : Fin 4) : Ok (Ideal.div (f i) (∑ j, f j)) ∧ Ideal.div (f i) (∑ j, f j) ≠ ⊤ := by
  by_cases hb : ∃ j, f j = ⊥
  · obtain ⟨j, hj⟩ := hb
    have hs : ∑ j, f j = ⊥ := by
      rw [← Finset.add_sum_erase _ _ (Finset.mem_univ j), hj, EReal.bot_add]
    have : Ideal.div (f i) (∑ j, f j) = 0 := by
      rw [hs]; unfold Ideal.div; rw [if_neg (by simp)]; simp
    rw [this]
    exact ⟨Or.inr le_rfl, EReal.zero_ne_top⟩
  · have h0 : ∀ j, 0 ≤ f j := fun j => (h j).resolve_left fun g => hb ⟨j, g⟩
    have hle : f i ≤ ∑ j, f j := Finset.single_le_sum (fun j _ => h0 j) (Finset.mem_univ i)
    have hS : 0 ≤ ∑ j, f j := Finset.sum_nonneg fun j _ => h0 j
    generalize (∑ j, f j) = S at hle hS
    induction S using EReal.rec with
    | bot => exact absurd hS (by simp)
    | top =>
      have : Ideal.div (f i) ⊤ = 0 := by unfold Ideal.div; rw [if_neg (by simp)]; simp
      rw [this]
      exact ⟨Or.inr le_rfl, EReal.zero_ne_top⟩
    | coe r =>
      by_cases hr : r = 0
      · subst hr
        have hfi : f i = 0 := le_antisymm hle (h0 i)
        have : Ideal.div (f i) ((0 : ℝ) : EReal) = ⊥ := by
          unfold Ideal.div; rw [if_pos EReal.coe_zero, hfi, if_neg (lt_irrefl _)]
        rw [this]
        exact ⟨Or.inl rfl, bot_ne_top⟩
      · rw [Ideal.div_coe hr]
        have hr0 : 0 ≤ r := EReal.coe_nonneg.mp hS
        have hx := h0 i
        generalize f i = x at hle hx
        induction x using EReal.rec with
        | bot => exact absurd hx (by simp)
        | top => exact absurd (top_le_iff.mp hle) (EReal.coe_ne_top r)
        | coe y =>
          rw [← EReal.coe_mul]
          have hy : 0 ≤ y := EReal.coe_nonneg.mp hx
          exact ⟨Or.inr (EReal.coe_nonneg.mpr (by positivity)), EReal.coe_ne_top _⟩

theorem ok_row (M : Fin 4 → Fin 4 → EReal) (h : ∀ i j, Ok (M i j)) (i j : Fin 4) : Ok (rowN M i j) :=
  (ok_div (M i) (h i) j).1

theorem ok_col (M : Fin 4 → Fin 4 → EReal) (h : ∀ i j, Ok (M i j)) (i j : Fin 4) : Ok (colN M i j) ∧ colN M i j ≠ ⊤ :=
  ok_div (fun i => M i j) (fun i => h i j) i

theorem ok_step (M : Fin 4 → Fin 4 → EReal) (h : ∀ i j, Ok (M i j)) (i j : Fin 4) : Ok (step M i j) :=
  (ok_col _ (ok_row M h) i j).1

theorem exp_nonneg (x : EReal) : 0 ≤ Ideal.exp x := by
  induction x using EReal.rec with
  | bot => exact le_rfl
  | top => exact le_top
  | coe r => exact EReal.coe_nonneg.mpr (Real.exp_pos r).le

/-- No entry of the mixing matrix is `⊤`. -/
theorem mix_ne_top (P : Par) (s : Tok) (k : Fin 7) (n j : Fin 4) : mix P s k n j ≠ ⊤ := by
  have h0 : ∀ i j, Ok (res P s k i j) := fun i j => Or.inr (exp_nonneg _)
  exact (ok_col _ (ok_row _ (ok_step _ (ok_step _ (ok_step _ (ok_step _ (ok_step _ h0)))))) n j).2

/-! ### The two forms of the update -/

theorem mul_ne_top {a : EReal} (ha : a ≠ ⊤) (r : ℝ) (hr : 0 ≤ r) : a * r ≠ ⊤ := by
  induction a using EReal.rec with
  | bot =>
    rcases hr.eq_or_lt with h | h
    · subst h; simp
    · rw [EReal.bot_mul_coe_of_pos h]; exact bot_ne_top
  | top => exact absurd rfl ha
  | coe y => rw [← EReal.coe_mul]; exact EReal.coe_ne_top _

theorem mul_neg_ne_bot {a : EReal} (ha : a ≠ ⊤) (r : ℝ) (hr : r < 0) : a * r ≠ ⊥ := by
  induction a using EReal.rec with
  | bot => rw [EReal.bot_mul_coe_of_neg hr]; exact top_ne_bot
  | top => exact absurd rfl ha
  | coe y => rw [← EReal.coe_mul]; exact EReal.coe_ne_bot _

theorem add_mul_fin (a b : EReal) (ha : a ≠ ⊤) (hb : b ≠ ⊤) (r : ℝ) : (a + b) * r = a * r + b * r := by
  rcases le_or_gt 0 r with hr | hr
  · exact EReal.right_distrib_of_nonneg_of_ne_top (EReal.coe_nonneg.mpr hr) (EReal.coe_ne_top r) a b
  · by_cases h : a = ⊥
    · rw [h, EReal.bot_add, EReal.bot_mul_coe_of_neg hr, EReal.top_add_of_ne_bot (mul_neg_ne_bot hb r hr)]
    · by_cases h' : b = ⊥
      · rw [h', EReal.add_bot, EReal.bot_mul_coe_of_neg hr, EReal.add_top_of_ne_bot (mul_neg_ne_bot ha r hr)]
      · lift a to ℝ using ⟨ha, h⟩
        lift b to ℝ using ⟨hb, h'⟩
        norm_cast
        exact add_mul a b r

theorem sum_mul_fin {ι : Type} (u : Finset ι) (f : ι → EReal) (h : ∀ i, f i ≠ ⊤) (r : ℝ) :
    (∑ i ∈ u, f i) * r = ∑ i ∈ u, f i * r ∧ ∑ i ∈ u, f i ≠ ⊤ := by
  classical
  induction u using Finset.induction_on with
  | empty => simp
  | insert i u hi ih =>
    rw [Finset.sum_insert hi, Finset.sum_insert hi, add_mul_fin _ _ (h i) ih.2, ih.1]
    exact ⟨rfl, (EReal.add_lt_top (h i) ih.2).ne⟩

theorem mul_sum_nonneg {ι : Type} (u : Finset ι) (f : ι → EReal) (r : ℝ) (hr : 0 ≤ r) : (r : EReal) * ∑ i ∈ u, f i = ∑ i ∈ u, (r : EReal) * f i := by
  classical
  induction u using Finset.induction_on with
  | empty => simp
  | insert i u hi ih =>
    rw [Finset.sum_insert hi, Finset.sum_insert hi, EReal.left_distrib_of_nonneg_of_ne_top (EReal.coe_nonneg.mpr hr) (EReal.coe_ne_top r), ih]

/-- The accumulated update is the update. -/
theorem acc_eq (P : Par) (s : Tok) (hs : ∀ n d, IsFin (s n d)) (hg : ∀ e, ∃ r : ℝ, gates P s e = r ∧ 0 ≤ r) (n : Fin 4) (d : Fin 768) :
    acc P s n d = upd P s n d := by
  have h1 : ∀ j, amix P s n j * s j d = ∑ k : Fin 7, mix P s k n j * gates P s k.succ * s j d := by
    intro j
    obtain ⟨r, hr⟩ := hs j d
    unfold amix
    rw [hr]
    refine (sum_mul_fin _ _ (fun k => ?_) r).1
    obtain ⟨g, hg, h0⟩ := hg k.succ
    rw [hg]
    exact mul_ne_top (mix_ne_top P s k n j) g h0
  unfold acc upd
  rw [Finset.sum_congr rfl fun j _ => h1 j, Finset.sum_comm, ← Finset.sum_add_distrib]
  refine Finset.sum_congr rfl fun k _ => ?_
  obtain ⟨g, hg, h0⟩ := hg k.succ
  rw [hg, EReal.left_distrib_of_nonneg_of_ne_top (EReal.coe_nonneg.mpr h0) (EReal.coe_ne_top g), mul_sum_nonneg _ _ g h0]
  congr 1
  · exact Finset.sum_congr rfl fun j _ => by ac_rfl
  · ac_rfl

end Cert.Math
-- ==== Proof.RefEnd.lean ====
/- The reference's three results where the streams and the router's weights are finite. -/
module

public import proofs.«01_k».proof.Proof.RefGate
public import proofs.«01_k».proof.Proof.Math

@[expose] public section

noncomputable section

namespace Cert.RefRest

open Cert.ReferenceIdeal Cert.ReferenceIdeal.Read Cert.Spec Cert.Math
open Idealize.ShloMosaic

variable (x0 : FVec Ideal S1x4x2048x768 .f32) (x1 : FVec Ideal S8x3072 .f32) (x2 x3 : FVec Ideal S8x4x3072 .f32)
  (x4 : FVec Ideal S8x16x3072 .f32) (x5 x6 : FVec Ideal S8x4 .f32) (x7 : FVec Ideal S8x4x4 .f32) (x8 x9 x10 : FVec Ideal S8 .f32)
  (x11 : FVec Ideal S8x768 .f32) (x12 x13 : FVec Ideal S8x768x768 .f32) (x14 x15 : FVec Ideal S8x1242x768 .f32)
  (x16 : FVec Ideal S8x768x1242 .f32) (x17 : FVec Ideal S8x768 .f32)
  (hs : ∀ i, IsFin (x0 i)) (hw : ∀ i, IsFin (x17 i))

include hs hw

theorem fin_pr (t : Fin 2048) (e : Fin 8) : ∃ r : ℝ, pr x0 x17 t e = r ∧ 0 ≤ r :=
  fin_prob _ (fun e => fin_logit (tok x0 t) (fun e d => x17 (ix2 e d)) (fun _ _ => hs _) (fun _ _ => hw _) e) e

theorem gates_at (t : Fin 2048) (e : Fin 8) : val_main_v32_1 (F := Ideal) x0 x17 (ix2 t e) = gate (pr x0 x17 t) e :=
  v32_1 x0 x17 t e fun e => (fin_pr x0 x17 hs hw t e).imp fun _ h => h.1

theorem res1 : val_main_v32_1 (F := Ideal) x0 x17 =
    fun i => gates (par x1 x2 x3 x4 x5 x6 x7 x8 x9 x10 x11 x12 x13 x14 x15 x16 x17) (tok x0 (i 0)) (i 1) := by
  funext i
  have hi : i = ix2 (i 0) (i 1) := funext fun a => by
    match a with
    | 0 => rfl
    | 1 => rfl
  exact (congrArg _ hi).trans (gates_at x0 x17 hs hw (i 0) (i 1))

theorem res2 : val_main_v41 (F := Ideal) x0 x17 =
    fun i => lp (probs (par x1 x2 x3 x4 x5 x6 x7 x8 x9 x10 x11 x12 x13 x14 x15 x16 x17) (tok x0 (i 0)))
      (gates (par x1 x2 x3 x4 x5 x6 x7 x8 x9 x10 x11 x12 x13 x14 x15 x16 x17) (tok x0 (i 0))) := by
  funext i
  have hi : i = ix2 (i 0) 0 := funext fun a => by
    match a with
    | 0 => rfl
    | 1 => exact Subsingleton.elim (α := Fin 1) _ _
  refine (congrArg _ hi).trans ((v41 x0 x17 (i 0)).trans ?_)
  exact congrArg (lp _) (funext fun e => gates_at x0 x17 hs hw (i 0) e)

theorem res0 : val_main_v204 (F := Ideal) x0 x1 x2 x3 x4 x5 x6 x7 x8 x9 x10 x11 x12 x13 x14 x15 x16 x17 =
    fun i => acc (par x1 x2 x3 x4 x5 x6 x7 x8 x9 x10 x11 x12 x13 x14 x15 x16 x17) (tok x0 (i 1)) (i 0) (i 2) := by
  funext i
  have hi : i = ix3 (i 0) (i 1) (i 2) := funext fun a => by
    match a with
    | 0 => rfl
    | 1 => rfl
    | 2 => rfl
  refine (congrArg _ hi).trans ((v204 x0 x1 x2 x3 x4 x5 x6 x7 x8 x9 x10 x11 x12 x13 x14 x15 x16 x17 (i 0) (i 1) (i 2)).trans ?_)
  refine Eq.trans ?_ (acc_eq (par x1 x2 x3 x4 x5 x6 x7 x8 x9 x10 x11 x12 x13 x14 x15 x16 x17) (tok x0 (i 1)) (fun _ _ => hs _)
    (fun e => fin_gate _ e (fin_pr x0 x17 hs hw (i 1) e)) (i 0) (i 2)).symm
  unfold upd
  exact Finset.sum_congr rfl fun k _ => congrArg (· * _) (gates_at x0 x17 hs hw (i 1) k.succ)

end Cert.RefRest
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run.Launch
public import proofs.«01_k».proof.Proof.RunBits.Launch
public import proofs.«01_k».proof.Proof.KerEnd
public import proofs.«01_k».proof.Proof.RefEnd
public import Idealize.ShloMosaic.Adequacy
public import Idealize.ShloMosaic.Init
public import Idealize.ShloMosaic.Lib.Claim

@[expose] public section

noncomputable section

namespace Cert.Proof

open Idealize.ShloMosaic Idealize.SL.Sem

/-- The shape relations of the precondition. -/
instance facts_finite_router : Cert.Pre_finite_router.Facts where
  bcast_S_S1x4x2048x768 := by decide
  bcast_S_S8x768 := by decide

/-! ## The frames -/

/-- The kernel as written terminates, leaves its arguments unchanged and every semaphore at zero. -/
theorem frame_kernel : Cert.quiescent_Kernel := fun m ρ _ => Cert.Kernel.Hand.frame m ρ

/-- The same of the kernel with its named constants. -/
theorem frame_ideal : Cert.quiescent_KernelIdeal := fun m ρ _ => Cert.KernelIdeal.Hand.frame m ρ

theorem frame_ideal_pre : Cert.quiescent_KernelIdeal_pre_finite_router := fun m ρ _ => Cert.KernelIdeal.Hand.frame m ρ

/-- The same of the reference; it declares no semaphore. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem frame_reference_pre : Cert.quiescent_ReferenceIdeal_pre_finite_router := fun m ρ _ => frame_reference m ρ trivial

/-- The two named constants are what the rule says of them. -/
theorem preserves : Cert.preserves_Kernel_KernelIdeal :=
  ⟨IdealRules.named_const.statement Cert.KernelIdeal.κ "inv_nd" .f32 0x39AAAAAB#32 _ rfl,
   IdealRules.named_const.statement Cert.KernelIdeal.κ "inv_d" .f32 0x3AAAAAAB#32 _ rfl⟩

/-! ## The results -/

/-- What the precondition's test says of one number. -/
theorem fin_of_test (x : EReal) (h : FloatOps.cmpf (F := Ideal) (φ := .f32) .olt (max x (-x)) (Ideal.ofBits .f32 0x7F800000#32) = 1#1) :
    Cert.Math.IsFin x := by
  rw [Cert.Spec.ofBits_inf] at h
  have h2 : max x (-x) < ⊤ := by
    by_contra hc
    have : FloatOps.cmpf (F := Ideal) (φ := .f32) .olt (max x (-x)) (⊤ : EReal) = BitVec.ofBool (decide (max x (-x) < ⊤)) := rfl
    rw [this, decide_eq_false hc] at h
    exact absurd h (by decide)
  induction x using EReal.rec with
  | bot => simp at h2
  | top => simp at h2
  | coe r => exact ⟨r, rfl⟩

section

variable (m : (ℓ : Loc Cert.KernelIdeal.nD Cert.KernelIdeal.τ Cert.KernelIdeal.sig) → Buf (Elt Ideal) ℓ)
  (h : Cert.Pre_KernelIdeal_finite_router m) (c : Dev Cert.KernelIdeal.nD)

include h

theorem fin_stream (i : Cert.ReferenceIdeal.S1x4x2048x768.Idx) : Cert.Math.IsFin (m ((c.tc : Thread Cert.KernelIdeal.nD Cert.KernelIdeal.τ).loc Cert.KernelIdeal.main_arg0) i) :=
  fin_of_test _ (congrFun (h c).1 i)

theorem fin_router (i : Cert.ReferenceIdeal.S8x768.Idx) : Cert.Math.IsFin (m ((c.tc : Thread Cert.KernelIdeal.nD Cert.KernelIdeal.τ).loc Cert.KernelIdeal.main_arg17) i) :=
  fin_of_test _ (congrFun (h c).2 i)

end

/-- Kernel and reference give the same three results where the streams and the router's weights are finite. -/
theorem algebraic : Cert.algebraic_KernelIdeal_ReferenceIdeal_pre_finite_router := by
  intro m g m' g' hp hm
  refine ⟨Cert.KernelIdeal.Hand.out0 m, Cert.KernelIdeal.Hand.out1 m, Cert.KernelIdeal.Hand.out2 m,
    Cert.KernelIdeal.Hand.run_value m g, ?_⟩
  refine (θ_run Cert.ReferenceIdeal.defs _ _).mono (fun r hr c => ?_) (Cert.ReferenceIdeal.Value.run (F := Ideal) m' g')
  have hs := fin_stream m hp c
  have hw := fin_router m hp c
  obtain ⟨e0, e1, e2, e3, e4, e5, e6, e7, e8, e9, e10, e11, e12, e13, e14, e15, e16, e17⟩ := hm c
  obtain ⟨r0, r1, r2, hargs⟩ := hr c
  refine ⟨?_, ?_, ?_, hargs⟩
  · refine r0.trans ((Cert.ReferenceIdeal.Read.val_main_v204_eq _).trans ?_)
    show Cert.ReferenceIdeal.Read.val_main_v204 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
    rw [e0, e1, e2, e3, e4, e5, e6, e7, e8, e9, e10, e11, e12, e13, e14, e15, e16, e17]
    exact Cert.RefRest.res0 _ _ _ _ _ _ _ _ _ _ _ _ _ _ _ _ _ _ hs hw
  · refine r1.trans ((Cert.ReferenceIdeal.Read.val_main_v32_1_eq _).trans ?_)
    show Cert.ReferenceIdeal.Read.val_main_v32_1 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg17)) = _
    rw [e0, e17]
    exact Cert.RefRest.res1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) hs hw
  · refine r2.trans ((Cert.ReferenceIdeal.Read.val_main_v41_eq _).trans ?_)
    show Cert.ReferenceIdeal.Read.val_main_v41 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg17)) = _
    rw [e0, e17]
    exact Cert.RefRest.res2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) hs hw

theorem claim : Cert.Claim :=
  ⟨Cert.Kernel.Gen.facts, Cert.KernelIdeal.Gen.facts, Cert.ReferenceIdeal.Gen.facts, facts_finite_router,
    frame_kernel, frame_ideal, frame_ideal_pre, frame_reference, frame_reference_pre, preserves, algebraic⟩

end Cert.Proof

end
